-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_v1) = v2 c
          ∧ r.2.mem ((c.tc : Thread Cert.ReferenceIdeal.nD Cert.ReferenceIdeal.τ).loc Cert.ReferenceIdeal.main_v28) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8192x4096 : Shape := ⟨2, ![8192, 4096]⟩
abbrev S16x4096 : Shape := ⟨2, ![16, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S16x4096 : S_.BroadcastsInDim S16x4096 (![] : Fin 0 → Fin S16x4096.rank)
  reducesTo_S16x4096_S_d0_1 : S16x4096.ReducesTo [0, 1] S_

variable [Facts]

def fn {F : FTy → Type} [FloatOps F] (main_arg0 : FVec F S8192x4096 .f32) (main_arg1 : FVec F S16x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S16x4096 .f32 := Host.absf main_arg1
  let main_cst_0 : FVec F S_ .f32 := constant S_ .f32 0x7F800000#32
  let main_v5 : FVec F S16x4096 .f32 := broadcastInDim S16x4096 ![] bcast_S_S16x4096 main_cst_0
  let main_v6 : IVec S16x4096 1 := cmpf .olt main_v4 main_v5
  let main_c_1 : IVec S_ 1 := constantI S_ 1 1#1
  let main_v7 : IVec S_ 1 := (fun x v => Host.reduce IntOp.andi x v reducesTo_S16x4096_S_d0_1 h_S_) main_v6 main_c_1
  let main_v8 : IVec S_ 1 := andi main_v3 main_v7
  main_v8
-- ==== Kernel.lean ====
abbrev S8192x4096 : Shape := ⟨2, ![8192, 4096]⟩
abbrev S16x4096 : Shape := ⟨2, ![16, 4096]⟩
abbrev S4096x16 : Shape := ⟨2, ![4096, 16]⟩
abbrev S8192x2 : Shape := ⟨2, ![8192, 2]⟩
abbrev S8192x16 : Shape := ⟨2, ![8192, 16]⟩
abbrev S1x1 : Shape := ⟨2, ![1, 1]⟩
abbrev S1024x4096 : Shape := ⟨2, ![1024, 4096]⟩
abbrev S2x16 : Shape := ⟨2, ![2, 16]⟩
abbrev S2x1024x2 : Shape := ⟨3, ![2, 1024, 2]⟩
abbrev S2x1024x16 : Shape := ⟨3, ![2, 1024, 16]⟩
abbrev S2 : Shape := ⟨1, ![2]⟩
abbrev S1 : Shape := ⟨1, ![1]⟩
abbrev S_ : Shape := ⟨0, ![]⟩
abbrev S1024x2 : Shape := ⟨2, ![1024, 2]⟩
abbrev S1x1024x2 : Shape := ⟨3, ![1, 1024, 2]⟩
abbrev S1024x16 : Shape := ⟨2, ![1024, 16]⟩
abbrev S1x1024x16 : Shape := ⟨3, ![1, 1024, 16]⟩
abbrev S1024 : Shape := ⟨1, ![1024]⟩
abbrev S1024x1 : Shape := ⟨2, ![1024, 1]⟩
abbrev S16 : Shape := ⟨1, ![16]⟩
abbrev S1x16 : Shape := ⟨2, ![1, 16]⟩
abbrev S1x1x16 : Shape := ⟨3, ![1, 1, 16]⟩
abbrev S1x1x1 : Shape := ⟨3, ![1, 1, 1]⟩

abbrev nBuf : Space → Nat
  | .hbm => 8
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S16x4096, .f32⟩
  | .hbm, ⟨2, _⟩ => ⟨S4096x16, .f32⟩
  | .hbm, ⟨3, _⟩ => ⟨S8192x2, .f32⟩
  | .hbm, ⟨4, _⟩ => ⟨S8192x2, .i32⟩
  | .hbm, ⟨5, _⟩ => ⟨S8192x16, .f32⟩
  | .hbm, ⟨6, _⟩ => ⟨S1x1, .f32⟩
  | .hbm, ⟨7, _⟩ => ⟨S_, .f32⟩
  | .local _ .vmem, ⟨0, _⟩ => ⟨S1024x4096, .f32⟩
  | .local _ .vmem, ⟨1, _⟩ => ⟨S1024x4096, .f32⟩
  | .local _ .vmem, ⟨2, _⟩ => ⟨S4096x16, .f32⟩
  | .local _ .vmem, ⟨3, _⟩ => ⟨S1x1, .f32⟩
  | .local _ .vmem, ⟨4, _⟩ => ⟨S2x16, .f32⟩
  | .local _ .vmem, ⟨5, _⟩ => ⟨S2x1024x2, .f32⟩
  | .local _ .vmem, ⟨6, _⟩ => ⟨S2x1024x2, .i32⟩
  | .local _ .vmem, ⟨7, _⟩ => ⟨S2x1024x16, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c2_i32_0 : BitVec 32 := 2#32
  let v1 : BitVec 1 := Scalar.cmpi .sge arg0 c2_i32_0
  let v2 : BitVec 32 := Scalar.extui v1
  let c0_i32 : BitVec 32 := 0#32
  let v3 : BitVec 1 := Scalar.cmpi .ne v2 c0_i32
  v3

def k0_off1 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off2 (i : grid0.Coords) : Fin 2 → Nat :=
  let arg0 : BitVec 32 := BitVec.ofNat 32 (i 0).val
  let c2_i32_44 : BitVec 32 := 2#32
  let v106 : BitVec 32 := Scalar.subi arg0 c2_i32_44
  let c1024_i32_45 : BitVec 32 := 1024#32
  let v107 : BitVec 32 := Scalar.muli v106 c1024_i32_45
  let c0_i32_46 : BitVec 32 := 0#32
  ![v107.toNat, 0]
def k0_off3 (i : grid0.Coords) : Fin 3 → Nat :=
  let arg0 : BitVec 32 := BitVec.ofNat 32 (i 0).val
  let c2_i32 : BitVec 32 := 2#32
  let v0 : BitVec 32 := Scalar.remsi arg0 c2_i32
  let c0_i32_47 : BitVec 32 := 0#32
  let c0_i32_48 : BitVec 32 := 0#32
  ![v0.toNat, 0, 0]
def k0_off4 (i : grid0.Coords) : Fin 2 → Nat :=
  let arg0 : BitVec 32 := BitVec.ofNat 32 (i 0).val
  let c2_i32_44 : BitVec 32 := 2#32
  let v106 : BitVec 32 := Scalar.subi arg0 c2_i32_44
  let c1024_i32_45 : BitVec 32 := 1024#32
  let v107 : BitVec 32 := Scalar.muli v106 c1024_i32_45
  let c0_i32_52 : BitVec 32 := 0#32
  ![v107.toNat, 0]
def k0_off5 (i : grid0.Coords) : Fin 3 → Nat :=
  let arg0 : BitVec 32 := BitVec.ofNat 32 (i 0).val
  let c2_i32 : BitVec 32 := 2#32
  let v0 : BitVec 32 := Scalar.remsi arg0 c2_i32
  let c0_i32_53 : BitVec 32 := 0#32
  let c0_i32_54 : BitVec 32 := 0#32
  ![v0.toNat, 0, 0]
def k0_off6 (i : grid0.Coords) : Fin 3 → Nat :=
  let arg0 : BitVec 32 := BitVec.ofNat 32 (i 0).val
  let c2_i32 : BitVec 32 := 2#32
  let v0 : BitVec 32 := Scalar.remsi arg0 c2_i32
  let v49 : Index := Scalar.indexCast v0
  let c0_15 : Index := 0#32
  let c0_16 : Index := 0#32
  ![v49.toNat, 0, 0]
def k0_off7 (i : grid0.Coords) : Fin 3 → Nat :=
  let arg0 : BitVec 32 := BitVec.ofNat 32 (i 0).val
  let c2_i32 : BitVec 32 := 2#32
  let v0 : BitVec 32 := Scalar.remsi arg0 c2_i32
  let v56 : Index := Scalar.indexCast v0
  let c0_17 : Index := 0#32
  let c0_18 : Index := 0#32
  ![v56.toNat, 0, 0]
def k0_off8 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off9 (i : grid0.Coords) : Fin 2 → Nat :=
  let arg0 : BitVec 32 := BitVec.ofNat 32 (i 0).val
  let c1024_i32 : BitVec 32 := 1024#32
  let v65 : BitVec 32 := Scalar.muli arg0 c1024_i32
  let c0_i32_21 : BitVec 32 := 0#32
  ![v65.toNat, 0]
def k0_off10 (i : grid0.Coords) : Fin 3 → Nat :=
  let arg0 : BitVec 32 := BitVec.ofNat 32 (i 0).val
  let c2_i32 : BitVec 32 := 2#32
  let v0 : BitVec 32 := Scalar.remsi arg0 c2_i32
  let c0_i32_22 : BitVec 32 := 0#32
  let c0_i32_23 : BitVec 32 := 0#32
  ![v0.toNat, 0, 0]
def k0_off11 (i : grid0.Coords) : Fin 2 → Nat :=
  let arg0 : BitVec 32 := BitVec.ofNat 32 (i 0).val
  let c1024_i32 : BitVec 32 := 1024#32
  let v65 : BitVec 32 := Scalar.muli arg0 c1024_i32
  let c0_i32_27 : BitVec 32 := 0#32
  ![v65.toNat, 0]
def k0_off12 (i : grid0.Coords) : Fin 3 → Nat :=
  let arg0 : BitVec 32 := BitVec.ofNat 32 (i 0).val
  let c2_i32 : BitVec 32 := 2#32
  let v0 : BitVec 32 := Scalar.remsi arg0 c2_i32
  let c0_i32_28 : BitVec 32 := 0#32
  let c0_i32_29 : BitVec 32 := 0#32
  ![v0.toNat, 0, 0]
def k0_cond3 (i : grid0.Coords) : BitVec 1 :=
  let arg0 : BitVec 32 := BitVec.ofNat 32 (i 0).val
  let c7_i32 : BitVec 32 := 7#32
  let v103 : BitVec 1 := Scalar.cmpi .eq arg0 c7_i32
  let v104 : BitVec 32 := Scalar.extui v103
  let c0_i32_43 : BitVec 32 := 0#32
  let v105 : BitVec 1 := Scalar.cmpi .ne v104 c0_i32_43
  v105

def k0_off13 (i : grid0.Coords) : Fin 1 → Nat :=
  let c1_i32 : BitVec 32 := 1#32
  let arg0 : BitVec 32 := BitVec.ofNat 32 (i 0).val
  let c2_i32 : BitVec 32 := 2#32
  let v0 : BitVec 32 := Scalar.remsi arg0 c2_i32
  let v106 : BitVec 32 := Scalar.subi c1_i32 v0
  ![v106.toNat]
def k0_off14 (i : grid0.Coords) : Fin 2 → Nat :=
  let arg0 : BitVec 32 := BitVec.ofNat 32 (i 0).val
  let c1_i32_44 : BitVec 32 := 1#32
  let v107 : BitVec 32 := Scalar.subi arg0 c1_i32_44
  let c1024_i32_45 : BitVec 32 := 1024#32
  let v108 : BitVec 32 := Scalar.muli v107 c1024_i32_45
  let c0_i32_46 : BitVec 32 := 0#32
  ![v108.toNat, 0]
def k0_off15 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v106 : BitVec 32 := Scalar.subi c1_i32 v0
  let c0_i32_47 : BitVec 32 := 0#32
  let c0_i32_48 : BitVec 32 := 0#32
  ![v106.toNat, 0, 0]
def k0_off16 (i : grid0.Coords) : Fin 2 → Nat :=
  let arg0 : BitVec 32 := BitVec.ofNat 32 (i 0).val
  let c1_i32_44 : BitVec 32 := 1#32
  let v107 : BitVec 32 := Scalar.subi arg0 c1_i32_44
  let c1024_i32_45 : BitVec 32 := 1024#32
  let v108 : BitVec 32 := Scalar.muli v107 c1024_i32_45
  let c0_i32_52 : BitVec 32 := 0#32
  ![v108.toNat, 0]
def k0_off17 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v106 : BitVec 32 := Scalar.subi c1_i32 v0
  let c0_i32_53 : BitVec 32 := 0#32
  let c0_i32_54 : BitVec 32 := 0#32
  ![v106.toNat, 0, 0]
def k0_off18 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off19 (i : grid0.Coords) : Fin 2 → Nat :=
  let arg0 : BitVec 32 := BitVec.ofNat 32 (i 0).val
  let c1024_i32_55 : BitVec 32 := 1024#32
  let v124 : BitVec 32 := Scalar.muli arg0 c1024_i32_55
  let c0_i32_56 : BitVec 32 := 0#32
  ![v124.toNat, 0]
def k0_off20 (i : grid0.Coords) : Fin 3 → Nat :=
  let arg0 : BitVec 32 := BitVec.ofNat 32 (i 0).val
  let c2_i32 : BitVec 32 := 2#32
  let v0 : BitVec 32 := Scalar.remsi arg0 c2_i32
  let c0_i32_57 : BitVec 32 := 0#32
  let c0_i32_58 : BitVec 32 := 0#32
  ![v0.toNat, 0, 0]
def k0_off21 (i : grid0.Coords) : Fin 2 → Nat :=
  let arg0 : BitVec 32 := BitVec.ofNat 32 (i 0).val
  let c1024_i32_55 : BitVec 32 := 1024#32
  let v124 : BitVec 32 := Scalar.muli arg0 c1024_i32_55
  let c0_i32_62 : BitVec 32 := 0#32
  ![v124.toNat, 0]
def k0_off22 (i : grid0.Coords) : Fin 3 → Nat :=
  let arg0 : BitVec 32 := BitVec.ofNat 32 (i 0).val
  let c2_i32 : BitVec 32 := 2#32
  let v0 : BitVec 32 := Scalar.remsi arg0 c2_i32
  let c0_i32_63 : BitVec 32 := 0#32
  let c0_i32_64 : BitVec 32 := 0#32
  ![v0.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S8192x4096 : Shape := ⟨2, ![8192, 4096]⟩
abbrev S16x4096 : Shape := ⟨2, ![16, 4096]⟩
abbrev S4096x16 : Shape := ⟨2, ![4096, 16]⟩
abbrev S8192x16 : Shape := ⟨2, ![8192, 16]⟩
abbrev S_ : Shape := ⟨0, ![]⟩
abbrev S8192 : Shape := ⟨1, ![8192]⟩
abbrev S8192x1 : Shape := ⟨2, ![8192, 1]⟩
abbrev S8192x2 : Shape := ⟨2, ![8192, 2]⟩
abbrev S1x16 : Shape := ⟨2, ![1, 16]⟩
abbrev S16 : Shape := ⟨1, ![16]⟩

abbrev nBuf : Space → Nat
  | .hbm => 48
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S16x4096, .f32⟩
  | .hbm, ⟨2, _⟩ => ⟨S4096x16, .f32⟩
  | .hbm, ⟨3, _⟩ => ⟨S8192x16, .f32⟩
  | .hbm, ⟨4, _⟩ => ⟨S_, .f32⟩
  | .hbm, ⟨5, _⟩ => ⟨S8192, .f32⟩
  | .hbm, ⟨6, _⟩ => ⟨S_, .f32⟩
  | .hbm, ⟨7, _⟩ => ⟨S8192, .f32⟩
  | .hbm, ⟨8, _⟩ => ⟨S8192, .f32⟩
  | .hbm, ⟨9, _⟩ => ⟨S8192x1, .f32⟩
  | .hbm, ⟨10, _⟩ => ⟨S8192x16, .f32⟩
  | .hbm, ⟨11, _⟩ => ⟨S8192x16, .f32⟩
  | .hbm, ⟨12, _⟩ => ⟨S8192x16, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S8192x16, .f32⟩
  | .hbm, ⟨17, _⟩ => ⟨S8192x16, .f32⟩
  | .hbm, ⟨18, _⟩ => ⟨S8192x2, .f32⟩
  | .hbm, ⟨19, _⟩ => ⟨S8192x2, .i32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S8192x2, .f32⟩
  | .hbm, ⟨24, _⟩ => ⟨S8192x2, .f32⟩
  | .hbm, ⟨25, _⟩ => ⟨S8192x1, .i32⟩
  | .hbm, ⟨26, _⟩ => ⟨S8192, .i32⟩
  | .hbm, ⟨27, _⟩ => ⟨S8192x1, .i32⟩
  | .hbm, ⟨28, _⟩ => ⟨S1x16, .i32⟩
  | .hbm, ⟨29, _⟩ => ⟨S8192x16, .i32⟩
  | .hbm, ⟨30, _⟩ => ⟨S8192x16, .i32⟩
  | .hbm, ⟨31, _⟩ => ⟨S8192x16, .i1⟩
  | .hbm, ⟨32, _⟩ => ⟨S8192x16, .f32⟩
  | .hbm, ⟨33, _⟩ => ⟨S_, .f32⟩
  | .hbm, ⟨34, _⟩ => ⟨S16, .f32⟩
  | .hbm, ⟨35, _⟩ => ⟨S_, .f32⟩
  | .hbm, ⟨36, _⟩ => ⟨S16, .f32⟩
  | .hbm, ⟨37, _⟩ => ⟨S16, .f32⟩
  | .hbm, ⟨38, _⟩ => ⟨S_, .f32⟩
  | .hbm, ⟨39, _⟩ => ⟨S16, .f32⟩
  | .hbm, ⟨40, _⟩ => ⟨S_, .f32⟩
  | .hbm, ⟨41, _⟩ => ⟨S16, .f32⟩
  | .hbm, ⟨42, _⟩ => ⟨S16, .f32⟩
  | .hbm, ⟨43, _⟩ => ⟨S16, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_values : Ref sig .tc := ⟨.hbm, 18, rfl⟩
abbrev main_indices : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_cst_8 : Ref sig .tc := ⟨.hbm, 46, rfl⟩
abbrev main_v28 : Ref sig .tc := ⟨.hbm, 47, rfl⟩

abbrev nD : Nat := 1
abbrev τ : Topo := Topo.v7x

variable {F : FTy → Type} [FloatOps F]
-- ==== Proof.KI.Names.lean ====
/- The names the body's slices have at a point of the grid: the two slots of each of the three staging scratches, the
   eight row blocks of each of the three results left in HBM, and the two semaphore cells of each copy. Every slice the
   body computes from the grid position is one of them. -/
module

public import proofs.«01_k».proof.Proof.Gen.KernelIdeal.Frame
public import proofs.«01_k».proof.Proof.Gen.KernelIdeal.Skeleton
public import Idealize.ShloMosaic.Lib.Ring.WriteBehind
public import Idealize.ShloMosaic.Lib.Pipeline.FrameSuffixV
public import Idealize.ShloMosaic.Lib.Tactic

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

/-! ## The branches, in the grid position -/

/-- The draining of the copies of two points back: from the third point on. -/
theorem drains_iff : ∀ t : Fin cfg0.N, k0_cond1 (grid0.coords t) = 1#1 ↔ 2 ≤ t.val :=
  (by decide +kernel : ∀ t : Fin grid0.N, k0_cond1 (grid0.coords t) = 1#1 ↔ 2 ≤ t.val)
/-- The final step: the last point. -/
theorem ends_iff : ∀ t : Fin cfg0.N, k0_cond3 (grid0.coords t) = 1#1 ↔ t.val = 7 :=
  (by decide +kernel : ∀ t : Fin grid0.N, k0_cond3 (grid0.coords t) = 1#1 ↔ t.val = 7)
/-- The clearing of the accumulator, as the body computes its condition. -/
abbrev clears (i : grid0.Coords) : Prop :=
  Scalar.cmpi .ne (Scalar.extui (Scalar.cmpi .eq (BitVec.ofNat 32 (i 0).val) 0#32) : BitVec 32) 0#32 = 1#1
/-- It holds at the first point. -/
theorem clears_iff : ∀ t : Fin cfg0.N, clears (grid0.coords t) ↔ t.val = 0 :=
  (by decide +kernel : ∀ t : Fin grid0.N, clears (grid0.coords t) ↔ t.val = 0)

/-! ## Slots, row blocks and cells -/

/-- The three results left in HBM, whole. -/
abbrev hbRw : Memref sig .tc .hbm S8192x2 .f32 := Memref.whole main_v1_0
abbrev hbSel : Memref sig .tc .hbm S8192x2 .i32 := Memref.whole main_v1_1
abbrev hbLog : Memref sig .tc .hbm S8192x16 .f32 := Memref.whole main_v1_2
/-- The scratches, whole: the accumulator and the three staging pairs. -/
abbrev scAcc : Memref sig .tc .vmem S2x16 .f32 := Memref.whole cc0_scratch0
abbrev scRw : Memref sig .tc .vmem S2x1024x2 .f32 := Memref.whole cc0_scratch1
abbrev scSel : Memref sig .tc .vmem S2x1024x2 .i32 := Memref.whole cc0_scratch2
abbrev scLog : Memref sig .tc .vmem S2x1024x16 .f32 := Memref.whole cc0_scratch3

theorem slot2_inb (g : Fin 2) : ∀ a, (![g.val, 0, 0] : Fin 3 → Nat) a + S1x1024x2.size a ≤ S2x1024x2.size a := by
  have := g.isLt; intro a; fin_cases a <;> simp <;> omega
theorem slot16_inb (g : Fin 2) : ∀ a, (![g.val, 0, 0] : Fin 3 → Nat) a + S1x1024x16.size a ≤ S2x1024x16.size a := by
  have := g.isLt; intro a; fin_cases a <;> simp <;> omega
theorem rows2_inb (u : Fin 8) : ∀ a, (![1024 * u.val, 0] : Fin 2 → Nat) a + S1024x2.size a ≤ S8192x2.size a := by
  have := u.isLt; intro a; fin_cases a <;> simp <;> omega
theorem rows16_inb (u : Fin 8) : ∀ a, (![1024 * u.val, 0] : Fin 2 → Nat) a + S1024x16.size a ≤ S8192x16.size a := by
  have := u.isLt; intro a; fin_cases a <;> simp <;> omega
theorem cell_inb (g : Fin 2) : ∀ a, (![g.val] : Fin 1 → Nat) a + S1.size a ≤ S2.size a := by
  have := g.isLt; intro a; fin_cases a <;> simp; omega

/-- Slot `g` of the scratch staging the weights, of the one staging the experts, of the one staging the logits. -/
def slotRw (g : Fin 2) : Memref sig .tc .vmem S1024x2 .f32 :=
  (scRw.slice (Rect.unit (s := S2x1024x2) ![g.val, 0, 0] S1x1024x2.size (slot2_inb g)) (fun _ => rfl)).squeeze S1024x2 squeezes_S1x1024x2_S1024x2
def slotSel (g : Fin 2) : Memref sig .tc .vmem S1024x2 .i32 :=
  (scSel.slice (Rect.unit (s := S2x1024x2) ![g.val, 0, 0] S1x1024x2.size (slot2_inb g)) (fun _ => rfl)).squeeze S1024x2 squeezes_S1x1024x2_S1024x2
def slotLog (g : Fin 2) : Memref sig .tc .vmem S1024x16 .f32 :=
  (scLog.slice (Rect.unit (s := S2x1024x16) ![g.val, 0, 0] S1x1024x16.size (slot16_inb g)) (fun _ => rfl)).squeeze S1024x16 squeezes_S1x1024x16_S1024x16
/-- Row block `u` of each of the three results. -/
def rowsRw (u : Fin 8) : Memref sig .tc .hbm S1024x2 .f32 :=
  hbRw.slice (Rect.unit (s := S8192x2) ![1024 * u.val, 0] S1024x2.size (rows2_inb u)) (fun _ => rfl)
def rowsSel (u : Fin 8) : Memref sig .tc .hbm S1024x2 .i32 :=
  hbSel.slice (Rect.unit (s := S8192x2) ![1024 * u.val, 0] S1024x2.size (rows2_inb u)) (fun _ => rfl)
def rowsLog (u : Fin 8) : Memref sig .tc .hbm S1024x16 .f32 :=
  hbLog.slice (Rect.unit (s := S8192x16) ![1024 * u.val, 0] S1024x16.size (rows16_inb u)) (fun _ => rfl)
/-- The cell each slot's copy is counted on. -/
def cellRw (g : Fin 2) : DmaSems sig S_ := (cc0_scratch4.slice (Rect.unit (s := S2) ![g.val] S1.size (cell_inb g))).squeeze S_ squeezes_S1_S_
def cellSel (g : Fin 2) : DmaSems sig S_ := (cc0_scratch5.slice (Rect.unit (s := S2) ![g.val] S1.size (cell_inb g))).squeeze S_ squeezes_S1_S_
def cellLog (g : Fin 2) : DmaSems sig S_ := (cc0_scratch6.slice (Rect.unit (s := S2) ![g.val] S1.size (cell_inb g))).squeeze S_ squeezes_S1_S_
abbrev semRw (g : Fin 2) : SemLoc sig := SemLoc.dma (cellRw g).sem
abbrev semSel (g : Fin 2) : SemLoc sig := SemLoc.dma (cellSel g).sem
abbrev semLog (g : Fin 2) : SemLoc sig := SemLoc.dma (cellLog g).sem
theorem semRw_eq : ∀ g : Fin 2, semRw g = (![SemLoc.dma 4, SemLoc.dma 5] : Fin 2 → SemLoc sig) g := by decide
theorem semSel_eq : ∀ g : Fin 2, semSel g = (![SemLoc.dma 6, SemLoc.dma 7] : Fin 2 → SemLoc sig) g := by decide
theorem semLog_eq : ∀ g : Fin 2, semLog g = (![SemLoc.dma 8, SemLoc.dma 9] : Fin 2 → SemLoc sig) g := by decide

/-! ## The body's offsets -/

abbrev now (t : Fin grid0.N) : Fin 2 := Ring.sl 2 t.val
abbrev oth (t : Fin grid0.N) : Fin 2 := Ring.sl 2 (t.val + 1)
abbrev blk (t : ℕ) : Fin 8 := Ring.bk 8 t

set_option synthInstance.maxSize 4096

theorem off1_eq : ∀ t : Fin grid0.N, k0_off1 (grid0.coords t) = ![(now t).val] := by decide +kernel
theorem off8_eq : ∀ t : Fin grid0.N, k0_off8 (grid0.coords t) = ![(now t).val] := by decide +kernel
theorem off18_eq : ∀ t : Fin grid0.N, k0_off18 (grid0.coords t) = ![(now t).val] := by decide +kernel
theorem off13_eq : ∀ t : Fin grid0.N, k0_off13 (grid0.coords t) = ![(oth t).val] := by decide +kernel
theorem off3_eq : ∀ t : Fin grid0.N, k0_off3 (grid0.coords t) = ![(now t).val, 0, 0] := by decide +kernel
theorem off5_eq : ∀ t : Fin grid0.N, k0_off5 (grid0.coords t) = ![(now t).val, 0, 0] := by decide +kernel
theorem off6_eq : ∀ t : Fin grid0.N, k0_off6 (grid0.coords t) = ![(now t).val, 0, 0] := by decide +kernel
theorem off7_eq : ∀ t : Fin grid0.N, k0_off7 (grid0.coords t) = ![(now t).val, 0, 0] := by decide +kernel
theorem off10_eq : ∀ t : Fin grid0.N, k0_off10 (grid0.coords t) = ![(now t).val, 0, 0] := by decide +kernel
theorem off12_eq : ∀ t : Fin grid0.N, k0_off12 (grid0.coords t) = ![(now t).val, 0, 0] := by decide +kernel
theorem off15_eq : ∀ t : Fin grid0.N, k0_off15 (grid0.coords t) = ![(oth t).val, 0, 0] := by decide +kernel
theorem off17_eq : ∀ t : Fin grid0.N, k0_off17 (grid0.coords t) = ![(oth t).val, 0, 0] := by decide +kernel
theorem off20_eq : ∀ t : Fin grid0.N, k0_off20 (grid0.coords t) = ![(now t).val, 0, 0] := by decide +kernel
theorem off22_eq : ∀ t : Fin grid0.N, k0_off22 (grid0.coords t) = ![(now t).val, 0, 0] := by decide +kernel
theorem off9_eq : ∀ t : Fin grid0.N, k0_off9 (grid0.coords t) = ![1024 * (blk t.val).val, 0] := by decide +kernel
theorem off11_eq : ∀ t : Fin grid0.N, k0_off11 (grid0.coords t) = ![1024 * (blk t.val).val, 0] := by decide +kernel

instance (priority := high) off6_closed (t : Fin grid0.N) : ClosedOff (k0_off6 (grid0.coords t)) := ⟨![(now t).val, 0, 0], off6_eq t⟩
instance (priority := high) off7_closed (t : Fin grid0.N) : ClosedOff (k0_off7 (grid0.coords t)) := ⟨![(now t).val, 0, 0], off7_eq t⟩

/-! ## The names: each slice at the offsets the body computes is a slot, a row block or a cell -/

@[sl_canon] theorem cellRw_off1 (t : Fin grid0.N) (h : k0_cond1 (grid0.coords t) = 1#1) :
    (cc0_scratch4.slice (Rect.unit (s := S2) (k0_off1 (grid0.coords t)) S1.size (k0_off1_inb (grid0.coords t) h))).squeeze S_ squeezes_S1_S_ = cellRw (now t) :=
  congrArg (fun A : DmaSems sig S1 => A.squeeze S_ squeezes_S1_S_) (SemArray.slice_unit_congr _ (off1_eq t) _ _)
@[sl_canon] theorem cellRw_off1' (t : Fin grid0.N) (h : k0_cond1 (grid0.coords t) = 1#1) :
    (cc0_scratch4.slice (Rect.unit (s := S2) (k0_off1 (grid0.coords t)) ![1] (k0_off1_inb (grid0.coords t) h))).squeeze S_ squeezes_S1_S_ = cellRw (now t) :=
  cellRw_off1 t h
@[sl_canon] theorem cellRw_off8 (t : Fin grid0.N) :
    (cc0_scratch4.slice (Rect.unit (s := S2) (k0_off8 (grid0.coords t)) S1.size (k0_off8_inb (grid0.coords t)))).squeeze S_ squeezes_S1_S_ = cellRw (now t) :=
  congrArg (fun A : DmaSems sig S1 => A.squeeze S_ squeezes_S1_S_) (SemArray.slice_unit_congr _ (off8_eq t) _ _)
@[sl_canon] theorem cellRw_off8' (t : Fin grid0.N) :
    (cc0_scratch4.slice (Rect.unit (s := S2) (k0_off8 (grid0.coords t)) ![1] (k0_off8_inb (grid0.coords t)))).squeeze S_ squeezes_S1_S_ = cellRw (now t) :=
  cellRw_off8 t
@[sl_canon] theorem cellRw_off13 (t : Fin grid0.N) (h : k0_cond3 (grid0.coords t) = 1#1) :
    (cc0_scratch4.slice (Rect.unit (s := S2) (k0_off13 (grid0.coords t)) S1.size (k0_off13_inb (grid0.coords t) h))).squeeze S_ squeezes_S1_S_ = cellRw (oth t) :=
  congrArg (fun A : DmaSems sig S1 => A.squeeze S_ squeezes_S1_S_) (SemArray.slice_unit_congr _ (off13_eq t) _ _)
@[sl_canon] theorem cellRw_off13' (t : Fin grid0.N) (h : k0_cond3 (grid0.coords t) = 1#1) :
    (cc0_scratch4.slice (Rect.unit (s := S2) (k0_off13 (grid0.coords t)) ![1] (k0_off13_inb (grid0.coords t) h))).squeeze S_ squeezes_S1_S_ = cellRw (oth t) :=
  cellRw_off13 t h
@[sl_canon] theorem cellRw_off18 (t : Fin grid0.N) (h : k0_cond3 (grid0.coords t) = 1#1) :
    (cc0_scratch4.slice (Rect.unit (s := S2) (k0_off18 (grid0.coords t)) S1.size (k0_off18_inb (grid0.coords t) h))).squeeze S_ squeezes_S1_S_ = cellRw (now t) :=
  congrArg (fun A : DmaSems sig S1 => A.squeeze S_ squeezes_S1_S_) (SemArray.slice_unit_congr _ (off18_eq t) _ _)
@[sl_canon] theorem cellRw_off18' (t : Fin grid0.N) (h : k0_cond3 (grid0.coords t) = 1#1) :
    (cc0_scratch4.slice (Rect.unit (s := S2) (k0_off18 (grid0.coords t)) ![1] (k0_off18_inb (grid0.coords t) h))).squeeze S_ squeezes_S1_S_ = cellRw (now t) :=
  cellRw_off18 t h
@[sl_canon] theorem cellSel_off1 (t : Fin grid0.N) (h : k0_cond1 (grid0.coords t) = 1#1) :
    (cc0_scratch5.slice (Rect.unit (s := S2) (k0_off1 (grid0.coords t)) S1.size (k0_off1_inb (grid0.coords t) h))).squeeze S_ squeezes_S1_S_ = cellSel (now t) :=
  congrArg (fun A : DmaSems sig S1 => A.squeeze S_ squeezes_S1_S_) (SemArray.slice_unit_congr _ (off1_eq t) _ _)
@[sl_canon] theorem cellSel_off1' (t : Fin grid0.N) (h : k0_cond1 (grid0.coords t) = 1#1) :
    (cc0_scratch5.slice (Rect.unit (s := S2) (k0_off1 (grid0.coords t)) ![1] (k0_off1_inb (grid0.coords t) h))).squeeze S_ squeezes_S1_S_ = cellSel (now t) :=
  cellSel_off1 t h
@[sl_canon] theorem cellSel_off8 (t : Fin grid0.N) :
    (cc0_scratch5.slice (Rect.unit (s := S2) (k0_off8 (grid0.coords t)) S1.size (k0_off8_inb (grid0.coords t)))).squeeze S_ squeezes_S1_S_ = cellSel (now t) :=
  congrArg (fun A : DmaSems sig S1 => A.squeeze S_ squeezes_S1_S_) (SemArray.slice_unit_congr _ (off8_eq t) _ _)
@[sl_canon] theorem cellSel_off8' (t : Fin grid0.N) :
    (cc0_scratch5.slice (Rect.unit (s := S2) (k0_off8 (grid0.coords t)) ![1] (k0_off8_inb (grid0.coords t)))).squeeze S_ squeezes_S1_S_ = cellSel (now t) :=
  cellSel_off8 t
@[sl_canon] theorem cellSel_off13 (t : Fin grid0.N) (h : k0_cond3 (grid0.coords t) = 1#1) :
    (cc0_scratch5.slice (Rect.unit (s := S2) (k0_off13 (grid0.coords t)) S1.size (k0_off13_inb (grid0.coords t) h))).squeeze S_ squeezes_S1_S_ = cellSel (oth t) :=
  congrArg (fun A : DmaSems sig S1 => A.squeeze S_ squeezes_S1_S_) (SemArray.slice_unit_congr _ (off13_eq t) _ _)
@[sl_canon] theorem cellSel_off13' (t : Fin grid0.N) (h : k0_cond3 (grid0.coords t) = 1#1) :
    (cc0_scratch5.slice (Rect.unit (s := S2) (k0_off13 (grid0.coords t)) ![1] (k0_off13_inb (grid0.coords t) h))).squeeze S_ squeezes_S1_S_ = cellSel (oth t) :=
  cellSel_off13 t h
@[sl_canon] theorem cellSel_off18 (t : Fin grid0.N) (h : k0_cond3 (grid0.coords t) = 1#1) :
    (cc0_scratch5.slice (Rect.unit (s := S2) (k0_off18 (grid0.coords t)) S1.size (k0_off18_inb (grid0.coords t) h))).squeeze S_ squeezes_S1_S_ = cellSel (now t) :=
  congrArg (fun A : DmaSems sig S1 => A.squeeze S_ squeezes_S1_S_) (SemArray.slice_unit_congr _ (off18_eq t) _ _)
@[sl_canon] theorem cellSel_off18' (t : Fin grid0.N) (h : k0_cond3 (grid0.coords t) = 1#1) :
    (cc0_scratch5.slice (Rect.unit (s := S2) (k0_off18 (grid0.coords t)) ![1] (k0_off18_inb (grid0.coords t) h))).squeeze S_ squeezes_S1_S_ = cellSel (now t) :=
  cellSel_off18 t h
@[sl_canon] theorem cellLog_off1 (t : Fin grid0.N) (h : k0_cond1 (grid0.coords t) = 1#1) :
    (cc0_scratch6.slice (Rect.unit (s := S2) (k0_off1 (grid0.coords t)) S1.size (k0_off1_inb (grid0.coords t) h))).squeeze S_ squeezes_S1_S_ = cellLog (now t) :=
  congrArg (fun A : DmaSems sig S1 => A.squeeze S_ squeezes_S1_S_) (SemArray.slice_unit_congr _ (off1_eq t) _ _)
@[sl_canon] theorem cellLog_off1' (t : Fin grid0.N) (h : k0_cond1 (grid0.coords t) = 1#1) :
    (cc0_scratch6.slice (Rect.unit (s := S2) (k0_off1 (grid0.coords t)) ![1] (k0_off1_inb (grid0.coords t) h))).squeeze S_ squeezes_S1_S_ = cellLog (now t) :=
  cellLog_off1 t h
@[sl_canon] theorem cellLog_off8 (t : Fin grid0.N) :
    (cc0_scratch6.slice (Rect.unit (s := S2) (k0_off8 (grid0.coords t)) S1.size (k0_off8_inb (grid0.coords t)))).squeeze S_ squeezes_S1_S_ = cellLog (now t) :=
  congrArg (fun A : DmaSems sig S1 => A.squeeze S_ squeezes_S1_S_) (SemArray.slice_unit_congr _ (off8_eq t) _ _)
@[sl_canon] theorem cellLog_off8' (t : Fin grid0.N) :
    (cc0_scratch6.slice (Rect.unit (s := S2) (k0_off8 (grid0.coords t)) ![1] (k0_off8_inb (grid0.coords t)))).squeeze S_ squeezes_S1_S_ = cellLog (now t) :=
  cellLog_off8 t
@[sl_canon] theorem cellLog_off13 (t : Fin grid0.N) (h : k0_cond3 (grid0.coords t) = 1#1) :
    (cc0_scratch6.slice (Rect.unit (s := S2) (k0_off13 (grid0.coords t)) S1.size (k0_off13_inb (grid0.coords t) h))).squeeze S_ squeezes_S1_S_ = cellLog (oth t) :=
  congrArg (fun A : DmaSems sig S1 => A.squeeze S_ squeezes_S1_S_) (SemArray.slice_unit_congr _ (off13_eq t) _ _)
@[sl_canon] theorem cellLog_off13' (t : Fin grid0.N) (h : k0_cond3 (grid0.coords t) = 1#1) :
    (cc0_scratch6.slice (Rect.unit (s := S2) (k0_off13 (grid0.coords t)) ![1] (k0_off13_inb (grid0.coords t) h))).squeeze S_ squeezes_S1_S_ = cellLog (oth t) :=
  cellLog_off13 t h
@[sl_canon] theorem cellLog_off18 (t : Fin grid0.N) (h : k0_cond3 (grid0.coords t) = 1#1) :
    (cc0_scratch6.slice (Rect.unit (s := S2) (k0_off18 (grid0.coords t)) S1.size (k0_off18_inb (grid0.coords t) h))).squeeze S_ squeezes_S1_S_ = cellLog (now t) :=
  congrArg (fun A : DmaSems sig S1 => A.squeeze S_ squeezes_S1_S_) (SemArray.slice_unit_congr _ (off18_eq t) _ _)
@[sl_canon] theorem cellLog_off18' (t : Fin grid0.N) (h : k0_cond3 (grid0.coords t) = 1#1) :
    (cc0_scratch6.slice (Rect.unit (s := S2) (k0_off18 (grid0.coords t)) ![1] (k0_off18_inb (grid0.coords t) h))).squeeze S_ squeezes_S1_S_ = cellLog (now t) :=
  cellLog_off18 t h
@[sl_canon] theorem slotRw_off3 (t : Fin grid0.N) (h : k0_cond1 (grid0.coords t) = 1#1) :
    (scRw.slice (Rect.unit (s := S2x1024x2) (k0_off3 (grid0.coords t)) S1x1024x2.size (k0_off3_inb (grid0.coords t) h)) (fun _ => rfl)).squeeze S1024x2 squeezes_S1x1024x2_S1024x2 = slotRw (now t) :=
  congrArg (fun M : Memref sig .tc .vmem S1x1024x2 .f32 => M.squeeze S1024x2 squeezes_S1x1024x2_S1024x2) (Memref.slice_unit_congr _ (off3_eq t) _ _ (fun _ => rfl) (fun _ => rfl))
@[sl_canon] theorem slotRw_off3' (t : Fin grid0.N) (h : k0_cond1 (grid0.coords t) = 1#1) :
    (scRw.slice (Rect.unit (s := S2x1024x2) (k0_off3 (grid0.coords t)) ![1, 1024, 2] (k0_off3_inb (grid0.coords t) h)) (fun _ => rfl)).squeeze S1024x2 squeezes_S1x1024x2_S1024x2 = slotRw (now t) :=
  slotRw_off3 t h
@[sl_canon] theorem slotRw_off10 (t : Fin grid0.N) :
    (scRw.slice (Rect.unit (s := S2x1024x2) (k0_off10 (grid0.coords t)) S1x1024x2.size (k0_off10_inb (grid0.coords t))) (fun _ => rfl)).squeeze S1024x2 squeezes_S1x1024x2_S1024x2 = slotRw (now t) :=
  congrArg (fun M : Memref sig .tc .vmem S1x1024x2 .f32 => M.squeeze S1024x2 squeezes_S1x1024x2_S1024x2) (Memref.slice_unit_congr _ (off10_eq t) _ _ (fun _ => rfl) (fun _ => rfl))
@[sl_canon] theorem slotRw_off10' (t : Fin grid0.N) :
    (scRw.slice (Rect.unit (s := S2x1024x2) (k0_off10 (grid0.coords t)) ![1, 1024, 2] (k0_off10_inb (grid0.coords t))) (fun _ => rfl)).squeeze S1024x2 squeezes_S1x1024x2_S1024x2 = slotRw (now t) :=
  slotRw_off10 t
@[sl_canon] theorem slotRw_off15 (t : Fin grid0.N) (h : k0_cond3 (grid0.coords t) = 1#1) :
    (scRw.slice (Rect.unit (s := S2x1024x2) (k0_off15 (grid0.coords t)) S1x1024x2.size (k0_off15_inb (grid0.coords t) h)) (fun _ => rfl)).squeeze S1024x2 squeezes_S1x1024x2_S1024x2 = slotRw (oth t) :=
  congrArg (fun M : Memref sig .tc .vmem S1x1024x2 .f32 => M.squeeze S1024x2 squeezes_S1x1024x2_S1024x2) (Memref.slice_unit_congr _ (off15_eq t) _ _ (fun _ => rfl) (fun _ => rfl))
@[sl_canon] theorem slotRw_off15' (t : Fin grid0.N) (h : k0_cond3 (grid0.coords t) = 1#1) :
    (scRw.slice (Rect.unit (s := S2x1024x2) (k0_off15 (grid0.coords t)) ![1, 1024, 2] (k0_off15_inb (grid0.coords t) h)) (fun _ => rfl)).squeeze S1024x2 squeezes_S1x1024x2_S1024x2 = slotRw (oth t) :=
  slotRw_off15 t h
@[sl_canon] theorem slotRw_off20 (t : Fin grid0.N) (h : k0_cond3 (grid0.coords t) = 1#1) :
    (scRw.slice (Rect.unit (s := S2x1024x2) (k0_off20 (grid0.coords t)) S1x1024x2.size (k0_off20_inb (grid0.coords t) h)) (fun _ => rfl)).squeeze S1024x2 squeezes_S1x1024x2_S1024x2 = slotRw (now t) :=
  congrArg (fun M : Memref sig .tc .vmem S1x1024x2 .f32 => M.squeeze S1024x2 squeezes_S1x1024x2_S1024x2) (Memref.slice_unit_congr _ (off20_eq t) _ _ (fun _ => rfl) (fun _ => rfl))
@[sl_canon] theorem slotRw_off20' (t : Fin grid0.N) (h : k0_cond3 (grid0.coords t) = 1#1) :
    (scRw.slice (Rect.unit (s := S2x1024x2) (k0_off20 (grid0.coords t)) ![1, 1024, 2] (k0_off20_inb (grid0.coords t) h)) (fun _ => rfl)).squeeze S1024x2 squeezes_S1x1024x2_S1024x2 = slotRw (now t) :=
  slotRw_off20 t h
@[sl_canon] theorem slotSel_off3 (t : Fin grid0.N) (h : k0_cond1 (grid0.coords t) = 1#1) :
    (scSel.slice (Rect.unit (s := S2x1024x2) (k0_off3 (grid0.coords t)) S1x1024x2.size (k0_off3_inb (grid0.coords t) h)) (fun _ => rfl)).squeeze S1024x2 squeezes_S1x1024x2_S1024x2 = slotSel (now t) :=
  congrArg (fun M : Memref sig .tc .vmem S1x1024x2 .i32 => M.squeeze S1024x2 squeezes_S1x1024x2_S1024x2) (Memref.slice_unit_congr _ (off3_eq t) _ _ (fun _ => rfl) (fun _ => rfl))
@[sl_canon] theorem slotSel_off3' (t : Fin grid0.N) (h : k0_cond1 (grid0.coords t) = 1#1) :
    (scSel.slice (Rect.unit (s := S2x1024x2) (k0_off3 (grid0.coords t)) ![1, 1024, 2] (k0_off3_inb (grid0.coords t) h)) (fun _ => rfl)).squeeze S1024x2 squeezes_S1x1024x2_S1024x2 = slotSel (now t) :=
  slotSel_off3 t h
@[sl_canon] theorem slotSel_off10 (t : Fin grid0.N) :
    (scSel.slice (Rect.unit (s := S2x1024x2) (k0_off10 (grid0.coords t)) S1x1024x2.size (k0_off10_inb (grid0.coords t))) (fun _ => rfl)).squeeze S1024x2 squeezes_S1x1024x2_S1024x2 = slotSel (now t) :=
  congrArg (fun M : Memref sig .tc .vmem S1x1024x2 .i32 => M.squeeze S1024x2 squeezes_S1x1024x2_S1024x2) (Memref.slice_unit_congr _ (off10_eq t) _ _ (fun _ => rfl) (fun _ => rfl))
@[sl_canon] theorem slotSel_off10' (t : Fin grid0.N) :
    (scSel.slice (Rect.unit (s := S2x1024x2) (k0_off10 (grid0.coords t)) ![1, 1024, 2] (k0_off10_inb (grid0.coords t))) (fun _ => rfl)).squeeze S1024x2 squeezes_S1x1024x2_S1024x2 = slotSel (now t) :=
  slotSel_off10 t
@[sl_canon] theorem slotSel_off15 (t : Fin grid0.N) (h : k0_cond3 (grid0.coords t) = 1#1) :
    (scSel.slice (Rect.unit (s := S2x1024x2) (k0_off15 (grid0.coords t)) S1x1024x2.size (k0_off15_inb (grid0.coords t) h)) (fun _ => rfl)).squeeze S1024x2 squeezes_S1x1024x2_S1024x2 = slotSel (oth t) :=
  congrArg (fun M : Memref sig .tc .vmem S1x1024x2 .i32 => M.squeeze S1024x2 squeezes_S1x1024x2_S1024x2) (Memref.slice_unit_congr _ (off15_eq t) _ _ (fun _ => rfl) (fun _ => rfl))
@[sl_canon] theorem slotSel_off15' (t : Fin grid0.N) (h : k0_cond3 (grid0.coords t) = 1#1) :
    (scSel.slice (Rect.unit (s := S2x1024x2) (k0_off15 (grid0.coords t)) ![1, 1024, 2] (k0_off15_inb (grid0.coords t) h)) (fun _ => rfl)).squeeze S1024x2 squeezes_S1x1024x2_S1024x2 = slotSel (oth t) :=
  slotSel_off15 t h
@[sl_canon] theorem slotSel_off20 (t : Fin grid0.N) (h : k0_cond3 (grid0.coords t) = 1#1) :
    (scSel.slice (Rect.unit (s := S2x1024x2) (k0_off20 (grid0.coords t)) S1x1024x2.size (k0_off20_inb (grid0.coords t) h)) (fun _ => rfl)).squeeze S1024x2 squeezes_S1x1024x2_S1024x2 = slotSel (now t) :=
  congrArg (fun M : Memref sig .tc .vmem S1x1024x2 .i32 => M.squeeze S1024x2 squeezes_S1x1024x2_S1024x2) (Memref.slice_unit_congr _ (off20_eq t) _ _ (fun _ => rfl) (fun _ => rfl))
@[sl_canon] theorem slotSel_off20' (t : Fin grid0.N) (h : k0_cond3 (grid0.coords t) = 1#1) :
    (scSel.slice (Rect.unit (s := S2x1024x2) (k0_off20 (grid0.coords t)) ![1, 1024, 2] (k0_off20_inb (grid0.coords t) h)) (fun _ => rfl)).squeeze S1024x2 squeezes_S1x1024x2_S1024x2 = slotSel (now t) :=
  slotSel_off20 t h
@[sl_canon] theorem slotLog_off5 (t : Fin grid0.N) (h : k0_cond1 (grid0.coords t) = 1#1) :
    (scLog.slice (Rect.unit (s := S2x1024x16) (k0_off5 (grid0.coords t)) S1x1024x16.size (k0_off5_inb (grid0.coords t) h)) (fun _ => rfl)).squeeze S1024x16 squeezes_S1x1024x16_S1024x16 = slotLog (now t) :=
  congrArg (fun M : Memref sig .tc .vmem S1x1024x16 .f32 => M.squeeze S1024x16 squeezes_S1x1024x16_S1024x16) (Memref.slice_unit_congr _ (off5_eq t) _ _ (fun _ => rfl) (fun _ => rfl))
@[sl_canon] theorem slotLog_off5' (t : Fin grid0.N) (h : k0_cond1 (grid0.coords t) = 1#1) :
    (scLog.slice (Rect.unit (s := S2x1024x16) (k0_off5 (grid0.coords t)) ![1, 1024, 16] (k0_off5_inb (grid0.coords t) h)) (fun _ => rfl)).squeeze S1024x16 squeezes_S1x1024x16_S1024x16 = slotLog (now t) :=
  slotLog_off5 t h
@[sl_canon] theorem slotLog_off12 (t : Fin grid0.N) :
    (scLog.slice (Rect.unit (s := S2x1024x16) (k0_off12 (grid0.coords t)) S1x1024x16.size (k0_off12_inb (grid0.coords t))) (fun _ => rfl)).squeeze S1024x16 squeezes_S1x1024x16_S1024x16 = slotLog (now t) :=
  congrArg (fun M : Memref sig .tc .vmem S1x1024x16 .f32 => M.squeeze S1024x16 squeezes_S1x1024x16_S1024x16) (Memref.slice_unit_congr _ (off12_eq t) _ _ (fun _ => rfl) (fun _ => rfl))
@[sl_canon] theorem slotLog_off12' (t : Fin grid0.N) :
    (scLog.slice (Rect.unit (s := S2x1024x16) (k0_off12 (grid0.coords t)) ![1, 1024, 16] (k0_off12_inb (grid0.coords t))) (fun _ => rfl)).squeeze S1024x16 squeezes_S1x1024x16_S1024x16 = slotLog (now t) :=
  slotLog_off12 t
@[sl_canon] theorem slotLog_off17 (t : Fin grid0.N) (h : k0_cond3 (grid0.coords t) = 1#1) :
    (scLog.slice (Rect.unit (s := S2x1024x16) (k0_off17 (grid0.coords t)) S1x1024x16.size (k0_off17_inb (grid0.coords t) h)) (fun _ => rfl)).squeeze S1024x16 squeezes_S1x1024x16_S1024x16 = slotLog (oth t) :=
  congrArg (fun M : Memref sig .tc .vmem S1x1024x16 .f32 => M.squeeze S1024x16 squeezes_S1x1024x16_S1024x16) (Memref.slice_unit_congr _ (off17_eq t) _ _ (fun _ => rfl) (fun _ => rfl))
@[sl_canon] theorem slotLog_off17' (t : Fin grid0.N) (h : k0_cond3 (grid0.coords t) = 1#1) :
    (scLog.slice (Rect.unit (s := S2x1024x16) (k0_off17 (grid0.coords t)) ![1, 1024, 16] (k0_off17_inb (grid0.coords t) h)) (fun _ => rfl)).squeeze S1024x16 squeezes_S1x1024x16_S1024x16 = slotLog (oth t) :=
  slotLog_off17 t h
@[sl_canon] theorem slotLog_off22 (t : Fin grid0.N) (h : k0_cond3 (grid0.coords t) = 1#1) :
    (scLog.slice (Rect.unit (s := S2x1024x16) (k0_off22 (grid0.coords t)) S1x1024x16.size (k0_off22_inb (grid0.coords t) h)) (fun _ => rfl)).squeeze S1024x16 squeezes_S1x1024x16_S1024x16 = slotLog (now t) :=
  congrArg (fun M : Memref sig .tc .vmem S1x1024x16 .f32 => M.squeeze S1024x16 squeezes_S1x1024x16_S1024x16) (Memref.slice_unit_congr _ (off22_eq t) _ _ (fun _ => rfl) (fun _ => rfl))
@[sl_canon] theorem slotLog_off22' (t : Fin grid0.N) (h : k0_cond3 (grid0.coords t) = 1#1) :
    (scLog.slice (Rect.unit (s := S2x1024x16) (k0_off22 (grid0.coords t)) ![1, 1024, 16] (k0_off22_inb (grid0.coords t) h)) (fun _ => rfl)).squeeze S1024x16 squeezes_S1x1024x16_S1024x16 = slotLog (now t) :=
  slotLog_off22 t h
@[sl_canon] theorem rowsRw_off9 (t : Fin grid0.N) :
    hbRw.slice (Rect.unit (s := S8192x2) (k0_off9 (grid0.coords t)) S1024x2.size (k0_off9_inb (grid0.coords t))) (fun _ => rfl) = rowsRw (blk t.val) :=
  Memref.slice_unit_congr _ (off9_eq t) _ _ (fun _ => rfl) (fun _ => rfl)
@[sl_canon] theorem rowsRw_off9' (t : Fin grid0.N) :
    hbRw.slice (Rect.unit (s := S8192x2) (k0_off9 (grid0.coords t)) ![1024, 2] (k0_off9_inb (grid0.coords t))) (fun _ => rfl) = rowsRw (blk t.val) :=
  rowsRw_off9 t
@[sl_canon] theorem rowsSel_off9 (t : Fin grid0.N) :
    hbSel.slice (Rect.unit (s := S8192x2) (k0_off9 (grid0.coords t)) S1024x2.size (k0_off9_inb (grid0.coords t))) (fun _ => rfl) = rowsSel (blk t.val) :=
  Memref.slice_unit_congr _ (off9_eq t) _ _ (fun _ => rfl) (fun _ => rfl)
@[sl_canon] theorem rowsSel_off9' (t : Fin grid0.N) :
    hbSel.slice (Rect.unit (s := S8192x2) (k0_off9 (grid0.coords t)) ![1024, 2] (k0_off9_inb (grid0.coords t))) (fun _ => rfl) = rowsSel (blk t.val) :=
  rowsSel_off9 t
@[sl_canon] theorem rowsLog_off11 (t : Fin grid0.N) :
    hbLog.slice (Rect.unit (s := S8192x16) (k0_off11 (grid0.coords t)) S1024x16.size (k0_off11_inb (grid0.coords t))) (fun _ => rfl) = rowsLog (blk t.val) :=
  Memref.slice_unit_congr _ (off11_eq t) _ _ (fun _ => rfl) (fun _ => rfl)
@[sl_canon] theorem rowsLog_off11' (t : Fin grid0.N) :
    hbLog.slice (Rect.unit (s := S8192x16) (k0_off11 (grid0.coords t)) ![1024, 16] (k0_off11_inb (grid0.coords t))) (fun _ => rfl) = rowsLog (blk t.val) :=
  rowsLog_off11 t

end Cert.KernelIdeal.Hand

end
-- ==== Proof.KI.Family.lean ====
/- What one point computes, and what the copies of a point carry: the values staged in the three slots, and a copy in
   flight, stated by the values its row block will hold. -/
module

public import proofs.«01_k».proof.Proof.KI.Names
public import Idealize.ShloMosaic.Lib.VecWindow
public import Idealize.ShloMosaic.Lib.WholeRead

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (Pipeline.UD sig nD τ) ℕ

/-! ## What one point computes from its block `x` of rows and the weights `w` -/

/-- The expert's number along the second axis. -/
abbrev lanes : IVec S1024x16 32 := iota .tc S1024x16 32 [1] iota_S1024x16_d1_w32
/-- What is staged: the logits, the pair of weights, the pair of experts. -/
def tileLog (x : Vec F S1024x4096 .f32) (w : Vec F S4096x16 .f32) : Vec F S1x1024x16 .f32 := k0_pay11 (k0_pay5 x w)
def tileRw (x : Vec F S1024x4096 .f32) (w : Vec F S4096x16 .f32) : Vec F S1x1024x2 .f32 :=
  k0_pay12 (k0_pay7 x w) lanes (k0_pay9 x w) (k0_pay10 x w)
def tileSel (x : Vec F S1024x4096 .f32) (w : Vec F S4096x16 .f32) : Vec F S1x1024x2 .i32 :=
  k0_pay13 (k0_pay8 x w) (k0_pay9 x w)

/-- A staged slot as the copy reads it: the leading axis of one dropped. -/
def flat2 {α : Type} (v : S1x1024x2.Idx → α) : S1024x2.Idx → α :=
  fun y => v (Shape.reshapeEquiv (Shape.Squeezes.numel_eq (s := S1x1024x2) (s' := S1024x2) squeezes_S1x1024x2_S1024x2) y)
def flat16 {α : Type} (v : S1x1024x16.Idx → α) : S1024x16.Idx → α :=
  fun y => v (Shape.reshapeEquiv (Shape.Squeezes.numel_eq (s := S1x1024x16) (s' := S1024x16) squeezes_S1x1024x16_S1024x16) y)
/-- The block of each result a point produces. -/
def outLog (x : Vec F S1024x4096 .f32) (w : Vec F S4096x16 .f32) : Vec F S1024x16 .f32 := flat16 (tileLog x w)
def outRw (x : Vec F S1024x4096 .f32) (w : Vec F S4096x16 .f32) : Vec F S1024x2 .f32 := flat2 (tileRw x w)
def outSel (x : Vec F S1024x4096 .f32) (w : Vec F S4096x16 .f32) : Vec F S1024x2 .i32 := flat2 (tileSel x w)
/-- The accumulator's two rows: the counts of the first choices and the sums of the probabilities. -/
abbrev row0 (a : Vec F S2x16 .f32) : Vec F S1x16 .f32 := VecWindow.window a ![0, 0] ![1, 16] inb_S2x16_S1x16_0_0
abbrev row1 (a : Vec F S2x16 .f32) : Vec F S1x16 .f32 := VecWindow.window a ![1, 0] ![1, 16] inb_S2x16_S1x16_1_0
/-- The accumulator after a point that finds it at `a`. -/
def accStep (x : Vec F S1024x4096 .f32) (w : Vec F S4096x16 .f32) (a : Vec F S2x16 .f32) : Vec F S2x16 .f32 :=
  VecWindow.put (VecWindow.put a ![0, 0] ![1, 16] (k0_pay2 lanes (k0_pay8 x w) (row0 a))) ![1, 0] ![1, 16] (k0_pay3 (k0_pay7 x w) (row1 a))
/-- The auxiliary loss read off the accumulator. -/
def auxOf (a : Vec F S2x16 .f32) : Vec F S1x1 .f32 := k0_pay4 (row0 a) (row1 a)

/-- A load of a whole staging buffer reads what it holds. -/
theorem load_rows {κ : Kind} {sp : Space} {M : Memref sig κ sp S1024x4096 .f32} (h : M.IsWhole) (x : Vec F S1024x4096 .f32) :
    View.readAt (Elt F) M.view (Rect.unit ![0, 0] S1024x4096.size inb_S1024x4096_S1024x4096_0_0).toLoadRect (h.unread x) = x := by
  rw [View.readAt_full, h.read_unread]
theorem load_wts {κ : Kind} {sp : Space} {M : Memref sig κ sp S4096x16 .f32} (h : M.IsWhole) (x : Vec F S4096x16 .f32) :
    View.readAt (Elt F) M.view (Rect.unit ![0, 0] S4096x16.size inb_S4096x16_S4096x16_0_0).toLoadRect (h.unread x) = x := by
  rw [View.readAt_full, h.read_unread]

/-- The accumulator's rows, and the whole of it, as rectangles. -/
abbrev rect0 : Rect S2x16 := Rect.unit (s := S2x16) ![0, 0] ![1, 16] inb_S2x16_S1x16_0_0
abbrev rect1 : Rect S2x16 := Rect.unit (s := S2x16) ![1, 0] ![1, 16] inb_S2x16_S1x16_1_0
abbrev rectAll : Rect S2x16 := Rect.unit (s := S2x16) ![0, 0] ![2, 16] inb_S2x16_S2x16_0_0
/-- A row of the accumulator read after it was cleared to `z`. -/
theorem cleared_row0 (v : View sig .tc .vmem S2x16 .f32) (z : Vec F S2x16 .f32) :
    v.readCov (Val := Elt F) [⟨rectAll, z⟩] rect0.toLoadRect = row0 z :=
  congrArg (fun a => VecWindow.window a ![0, 0] ![1, 16] inb_S2x16_S1x16_0_0) (View.read_writes_full v _ inb_S2x16_S2x16_0_0 z [])
theorem cleared_row1 (v : View sig .tc .vmem S2x16 .f32) (z : Vec F S2x16 .f32) :
    v.readCov (Val := Elt F) [⟨rectAll, z⟩] rect1.toLoadRect = row1 z :=
  congrArg (fun a => VecWindow.window a ![1, 0] ![1, 16] inb_S2x16_S1x16_1_0) (View.read_writes_full v _ inb_S2x16_S2x16_0_0 z [])
/-- Its second row is not touched by the store of the first. -/
theorem cleared_row1_past (v : View sig .tc .vmem S2x16 .f32) (z : Vec F S2x16 .f32) (g : rect0.shape.Idx → Elt F .f32) :
    v.readCov (Val := Elt F) [⟨rect0, g⟩, ⟨rectAll, z⟩] rect1.toLoadRect = row1 z :=
  (View.readCov_cons_of_disjoint v ⟨rect0, g⟩ [⟨rectAll, z⟩] rect1.toLoadRect
    (Rect.unit_disjoint (s := S2x16) (inb := inb_S2x16_S1x16_0_0) 0 (.inl (by decide)))).trans (cleared_row1 v z)
/-- The accumulator after the clearing store and the two rows' stores. -/
theorem cleared_put (v : View sig .tc .vmem S2x16 .f32) (f) (z : Vec F S2x16 .f32) (g0 g1 : Vec F S1x16 .f32) :
    v.read (Elt F) (v.writes (Elt F) f [⟨rect1, g1⟩, ⟨rect0, g0⟩, ⟨rectAll, z⟩])
      = VecWindow.put (VecWindow.put z ![0, 0] ![1, 16] g0) ![1, 0] ![1, 16] g1 :=
  (View.read_writes_cons_put v f _ g1 _ rfl).trans (congrArg (fun a => VecWindow.put a ![1, 0] ![1, 16] g1)
    ((View.read_writes_cons_put v f _ g0 _ rfl).trans (congrArg (fun a => VecWindow.put a ![0, 0] ![1, 16] g0)
      (View.read_writes_full v f inb_S2x16_S2x16_0_0 z []))))

/-- The accumulator after the two rows' stores over `f`, and its rows read back. -/
theorem rows_put (v : View sig .tc .vmem S2x16 .f32) (f) (g0 g1 : Vec F S1x16 .f32) :
    v.read (Elt F) (v.writes (Elt F) f [⟨rect1, g1⟩, ⟨rect0, g0⟩])
      = VecWindow.put (VecWindow.put (v.read (Elt F) f) ![0, 0] ![1, 16] g0) ![1, 0] ![1, 16] g1 :=
  (View.read_writes_cons_put v f _ g1 _ rfl).trans (congrArg (fun a => VecWindow.put a ![1, 0] ![1, 16] g1)
    (View.read_writes_cons_put v f _ g0 _ rfl))

theorem rows_back0 (v : View sig .tc .vmem S2x16 .f32) (g0 g1 : Vec F S1x16 .f32) :
    v.readCov (Val := Elt F) [⟨rect1, g1⟩, ⟨rect0, g0⟩] rect0.toLoadRect = g0 :=
  (View.readCov_cons_of_disjoint v ⟨rect1, g1⟩ [⟨rect0, g0⟩] rect0.toLoadRect
    (Rect.unit_disjoint (s := S2x16) (inb := inb_S2x16_S1x16_1_0) 0 (.inr (by decide)))).trans (View.readCov_cons_toLoadRect v rect0 g0 [])
theorem rows_back1 (v : View sig .tc .vmem S2x16 .f32) (g0 g1 : Vec F S1x16 .f32) :
    v.readCov (Val := Elt F) [⟨rect1, g1⟩, ⟨rect0, g0⟩] rect1.toLoadRect = g1 :=
  View.readCov_cons_toLoadRect v rect1 g1 [⟨rect0, g0⟩]
/-- The rows of a stepped accumulator. -/
theorem row0_accStep (x : Vec F S1024x4096 .f32) (w : Vec F S4096x16 .f32) (a : Vec F S2x16 .f32) :
    row0 (accStep x w a) = k0_pay2 lanes (k0_pay8 x w) (row0 a) :=
  (VecWindow.window_put_of_disjoint (s := S2x16) _ ![1, 0] ![1, 16] ![0, 0] ![1, 16] inb_S2x16_S1x16_0_0 _ 0 (.inl (by decide))).trans
    (VecWindow.window_put_same (s := S2x16) a ![0, 0] ![1, 16] inb_S2x16_S1x16_0_0 _)
theorem row1_accStep (x : Vec F S1024x4096 .f32) (w : Vec F S4096x16 .f32) (a : Vec F S2x16 .f32) :
    row1 (accStep x w a) = k0_pay3 (k0_pay7 x w) (row1 a) :=
  VecWindow.window_put_same (s := S2x16) _ ![1, 0] ![1, 16] inb_S2x16_S1x16_1_0 _

/-- A slot read after the store into it. -/
theorem slotRw_store (t : Fin grid0.N) (f) (v : Vec F S1x1024x2 .f32) :
    (slotRw (now t)).view.read (Elt F) (View.write (Elt F) (scRw.access (Rect.unit (k0_off7 (grid0.coords t)) S1x1024x2.size (k0_off7_inb (grid0.coords t)))) f v Finset.univ) = flat2 v := by
  funext y
  exact congrFun (Memref.read_slice_write scRw _ (off7_eq t) (slot2_inb (now t)) f v) _
theorem slotSel_store (t : Fin grid0.N) (f) (v : Vec F S1x1024x2 .i32) :
    (slotSel (now t)).view.read (Elt F) (View.write (Elt F) (scSel.access (Rect.unit (k0_off7 (grid0.coords t)) S1x1024x2.size (k0_off7_inb (grid0.coords t)))) f v Finset.univ) = flat2 v := by
  funext y
  exact congrFun (Memref.read_slice_write scSel _ (off7_eq t) (slot2_inb (now t)) f v) _
theorem slotLog_store (t : Fin grid0.N) (f) (v : Vec F S1x1024x16 .f32) :
    (slotLog (now t)).view.read (Elt F) (View.write (Elt F) (scLog.access (Rect.unit (k0_off6 (grid0.coords t)) S1x1024x16.size (k0_off6_inb (grid0.coords t)))) f v Finset.univ) = flat16 v := by
  funext y
  exact congrFun (Memref.read_slice_write scLog _ (off6_eq t) (slot16_inb (now t)) f v) _

/-! ## The slots, the cells, the row blocks, the copies in flight -/

variable (c : Dev nD)

/-- Memref `M`'s buffer on core `c`, and its elements held at `f`. -/
abbrev BufOf {sp : Space} {S : Shape} {e : EltTy} (M : Memref sig .tc sp S e) : Type := Buf (Elt F) (M.view.loc (c : Thread nD τ))
abbrev heldAt {sp : Space} {S : Shape} {e : EltTy} (M : Memref sig .tc sp S e) (f : BufOf (F := F) c M) : sProp 𝕄 :=
  M.view.loc (c : Thread nD τ) ↦[M.view.set]{fullShare} f
/-- A semaphore at zero. -/
abbrev cellZero (s : SemLoc sig) : sProp 𝕄 := semVal ((c : Thread nD τ), s) 0
/-- A row block whose elements read `v`. -/
abbrev holds {sp : Space} {S : Shape} {e : EltTy} (M : Memref sig .tc sp S e) (v : S.Idx → Elt F e) : sProp 𝕄 :=
  iprop(∃ f, ⌜M.view.read (Elt F) f = v⌝ ∗ heldAt c M f)
/-- A copy of slot `S` to row block `D` in flight on `s`: it will deliver the row block reading `v`, and the slot. -/
abbrev flying {s₁ s₂ : Space} {S : Shape} {e : EltTy} (M : Memref sig .tc s₁ S e) (D : Memref sig .tc s₂ S e) (s : SemLoc sig)
    (v : S.Idx → Elt F e) : sProp 𝕄 :=
  iprop(∃ f e', ⌜D.view.read (Elt F) f = v⌝ ∗ Transfers.Flight countersEmb (c : Thread nD τ) s default (D.view.amount s) iprop(heldAt c D f ∗ heldAt c M e'))

end Cert.KernelIdeal.Hand

end
-- ==== Proof.KI.Ring.lean ====
/- The ring of copies out of the staging slots: its members, and the whole buffers as its slots and row blocks. -/
module

public import proofs.«01_k».proof.Proof.KI.Family
public import Idealize.ShloMosaic.Lib.ValueIdxCore

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open ValueIdx

variable {F : FTy → Type} [FloatOps F]

local notation "𝕄" => MT nD τ sig Unit (Elt F) ℕ (Pipeline.UD sig nD τ) ℕ

/-! ## Row blocks and slots tile their buffers -/

/-- Blocks of 1024 rows, as sets of indices of an array of 8192 rows. -/
abbrev rowsSet2 (u : Fin 8) : Finset S8192x2.Idx := (Rect.unit (s := S8192x2) ![1024 * u.val, 0] S1024x2.size (rows2_inb u)).set
abbrev rowsSet16 (u : Fin 8) : Finset S8192x16.Idx := (Rect.unit (s := S8192x16) ![1024 * u.val, 0] S1024x16.size (rows16_inb u)).set
/-- Slots, as sets of indices of a staging pair. -/
abbrev slotSet2 (g : Fin 2) : Finset S2x1024x2.Idx := (Rect.unit (s := S2x1024x2) ![g.val, 0, 0] S1x1024x2.size (slot2_inb g)).set
abbrev slotSet16 (g : Fin 2) : Finset S2x1024x16.Idx := (Rect.unit (s := S2x1024x16) ![g.val, 0, 0] S1x1024x16.size (slot16_inb g)).set
theorem rowsSet2_disjoint (u u' : Fin 8) (h : u ≠ u') : Disjoint (rowsSet2 u) (rowsSet2 u') :=
  Ring.lead_disjoint (s := S8192x2) (0 : Fin 2) 1024 (fun u : Fin 8 => ![1024 * u.val, 0]) S1024x2.size rows2_inb (fun _ => rfl) rfl u u' h
theorem rowsSet2_cover : Finset.univ.biUnion rowsSet2 = Finset.univ :=
  Ring.lead_cover (s := S8192x2) (0 : Fin 2) 1024 (fun u : Fin 8 => ![1024 * u.val, 0]) S1024x2.size rows2_inb (fun _ => rfl)
    (fun _ a h => by fin_cases a; · exact absurd rfl h
                     · rfl) rfl (fun a h => by fin_cases a; · exact absurd rfl h
                                               · rfl) rfl
theorem slotSet2_disjoint (g g' : Fin 2) (h : g ≠ g') : Disjoint (slotSet2 g) (slotSet2 g') :=
  Ring.lead_disjoint (s := S2x1024x2) (0 : Fin 3) 1 (fun g : Fin 2 => ![g.val, 0, 0]) S1x1024x2.size slot2_inb (fun g => (Nat.one_mul g.val).symm) rfl g g' h
theorem slotSet2_cover : Finset.univ.biUnion slotSet2 = Finset.univ :=
  Ring.lead_cover (s := S2x1024x2) (0 : Fin 3) 1 (fun g : Fin 2 => ![g.val, 0, 0]) S1x1024x2.size slot2_inb (fun g => (Nat.one_mul g.val).symm)
    (fun _ a h => by fin_cases a; · exact absurd rfl h
                     · rfl
                     · rfl) rfl (fun a h => by fin_cases a; · exact absurd rfl h
                                               · rfl
                                               · rfl) rfl
theorem rowsSet16_disjoint (u u' : Fin 8) (h : u ≠ u') : Disjoint (rowsSet16 u) (rowsSet16 u') :=
  Ring.lead_disjoint (s := S8192x16) (0 : Fin 2) 1024 (fun u : Fin 8 => ![1024 * u.val, 0]) S1024x16.size rows16_inb (fun _ => rfl) rfl u u' h
theorem rowsSet16_cover : Finset.univ.biUnion rowsSet16 = Finset.univ :=
  Ring.lead_cover (s := S8192x16) (0 : Fin 2) 1024 (fun u : Fin 8 => ![1024 * u.val, 0]) S1024x16.size rows16_inb (fun _ => rfl)
    (fun _ a h => by fin_cases a; · exact absurd rfl h
                     · rfl) rfl (fun a h => by fin_cases a; · exact absurd rfl h
                                               · rfl) rfl
theorem slotSet16_disjoint (g g' : Fin 2) (h : g ≠ g') : Disjoint (slotSet16 g) (slotSet16 g') :=
  Ring.lead_disjoint (s := S2x1024x16) (0 : Fin 3) 1 (fun g : Fin 2 => ![g.val, 0, 0]) S1x1024x16.size slot16_inb (fun g => (Nat.one_mul g.val).symm) rfl g g' h
theorem slotSet16_cover : Finset.univ.biUnion slotSet16 = Finset.univ :=
  Ring.lead_cover (s := S2x1024x16) (0 : Fin 3) 1 (fun g : Fin 2 => ![g.val, 0, 0]) S1x1024x16.size slot16_inb (fun g => (Nat.one_mul g.val).symm)
    (fun _ a h => by fin_cases a; · exact absurd rfl h
                     · rfl
                     · rfl) rfl (fun a h => by fin_cases a; · exact absurd rfl h
                                               · rfl
                                               · rfl) rfl

/-- The array whose block `u` of 1024 rows is `v u`. -/
def gather2 {α : Type} (v : Fin 8 → S1024x2.Idx → α) : S8192x2.Idx → α := fun i =>
  v ⟨(i 0).val / 1024, by have h : (i 0).val < 8192 := (i 0).isLt; omega⟩ (ix2 ⟨(i 0).val % 1024, Nat.mod_lt _ (by decide)⟩ (i 1))
def gather16 {α : Type} (v : Fin 8 → S1024x16.Idx → α) : S8192x16.Idx → α := fun i =>
  v ⟨(i 0).val / 1024, by have h : (i 0).val < 8192 := (i 0).isLt; omega⟩ (ix2 ⟨(i 0).val % 1024, Nat.mod_lt _ (by decide)⟩ (i 1))
theorem gather2_block {α : Type} (v : Fin 8 → S1024x2.Idx → α) (u : Fin 8) (y : S1024x2.Idx) :
    gather2 v ((Rect.unit (s := S8192x2) ![1024 * u.val, 0] S1024x2.size (rows2_inb u)).emb y) = v u y := by
  have h0 : (((Rect.unit (s := S8192x2) ![1024 * u.val, 0] S1024x2.size (rows2_inb u)).emb y) 0).val = 1024 * u.val + 1 * (y 0).val := rfl
  have h1 : (((Rect.unit (s := S8192x2) ![1024 * u.val, 0] S1024x2.size (rows2_inb u)).emb y) 1).val = 0 + 1 * (y 1).val := rfl
  have hy : (y 0).val < 1024 := (y 0).isLt
  unfold gather2
  refine congrArg₂ v (Fin.ext ?_) (funext fun a => ?_)
  · show (((Rect.unit (s := S8192x2) ![1024 * u.val, 0] S1024x2.size (rows2_inb u)).emb y) 0).val / 1024 = u.val
    omega
  · refine Fin.ext ?_
    fin_cases a
    · show (((Rect.unit (s := S8192x2) ![1024 * u.val, 0] S1024x2.size (rows2_inb u)).emb y) 0).val % 1024 = (y 0).val
      omega
    · show (((Rect.unit (s := S8192x2) ![1024 * u.val, 0] S1024x2.size (rows2_inb u)).emb y) 1).val = (y 1).val
      omega
theorem gather16_block {α : Type} (v : Fin 8 → S1024x16.Idx → α) (u : Fin 8) (y : S1024x16.Idx) :
    gather16 v ((Rect.unit (s := S8192x16) ![1024 * u.val, 0] S1024x16.size (rows16_inb u)).emb y) = v u y := by
  have h0 : (((Rect.unit (s := S8192x16) ![1024 * u.val, 0] S1024x16.size (rows16_inb u)).emb y) 0).val = 1024 * u.val + 1 * (y 0).val := rfl
  have h1 : (((Rect.unit (s := S8192x16) ![1024 * u.val, 0] S1024x16.size (rows16_inb u)).emb y) 1).val = 0 + 1 * (y 1).val := rfl
  have hy : (y 0).val < 1024 := (y 0).isLt
  unfold gather16
  refine congrArg₂ v (Fin.ext ?_) (funext fun a => ?_)
  · show (((Rect.unit (s := S8192x16) ![1024 * u.val, 0] S1024x16.size (rows16_inb u)).emb y) 0).val / 1024 = u.val
    omega
  · refine Fin.ext ?_
    fin_cases a
    · show (((Rect.unit (s := S8192x16) ![1024 * u.val, 0] S1024x16.size (rows16_inb u)).emb y) 0).val % 1024 = (y 0).val
      omega
    · show (((Rect.unit (s := S8192x16) ![1024 * u.val, 0] S1024x16.size (rows16_inb u)).emb y) 1).val = (y 1).val
      omega

/-! ## The members, each a family of slots and of row blocks -/

variable (c : Dev nD)
theorem rowsRw_set (u : Fin 8) : (rowsRw u).view.set = rowsSet2 u := View.set_slice_whole _ _
theorem slotRw_set (g : Fin 2) : (slotRw g).view.set = slotSet2 g := by
  simp only [slotRw, Memref.view_squeeze, View.set_reshape]; exact View.set_slice_whole _ _
theorem held_rowsRw (u : Fin 8) (f) : heldAt (F := F) c (rowsRw u) f = (((c : Thread nD τ).loc main_v1_0) ↦[rowsSet2 u]{fullShare} f : sProp 𝕄) := by
  unfold heldAt; rw [rowsRw_set]; rfl
theorem held_slotRw (g : Fin 2) (f) : heldAt (F := F) c (slotRw g) f = (((c : Thread nD τ).loc cc0_scratch1) ↦[slotSet2 g]{fullShare} f : sProp 𝕄) := by
  unfold heldAt; rw [slotRw_set]; rfl
/-- A staging pair whole is its two slots; -/
theorem slotsRw_in : iprop(∃ f : Buf (Elt F) ((c : Thread nD τ).loc cc0_scratch1), ((c : Thread nD τ).loc cc0_scratch1) ↦{fullShare} f)
    ⊢ (bigSep Finset.univ (fun g : Fin 2 => iprop(∃ e, heldAt (F := F) c (slotRw g) e)) : sProp 𝕄) :=
  Ring.pieces_split (U := Pipeline.UD sig nD τ) (ℓ := (c : Thread nD τ).loc cc0_scratch1) (q := fullShare) slotSet2 slotSet2_disjoint slotSet2_cover
    (fun g e => heldAt c (slotRw g) e) (fun g e => held_slotRw c g e)
theorem slotsRw_out : (bigSep Finset.univ (fun g : Fin 2 => iprop(∃ e, heldAt (F := F) c (slotRw g) e)) : sProp 𝕄)
    ⊢ iprop(∃ f : Buf (Elt F) ((c : Thread nD τ).loc cc0_scratch1), ((c : Thread nD τ).loc cc0_scratch1) ↦{fullShare} f) :=
  Ring.pieces_join (U := Pipeline.UD sig nD τ) (ℓ := (c : Thread nD τ).loc cc0_scratch1) (q := fullShare) slotSet2 slotSet2_disjoint slotSet2_cover
    (fun g e => heldAt c (slotRw g) e) (fun g e => held_slotRw c g e) (fun _ => Classical.arbitrary _)
/-- its result whole is its row blocks, and the row blocks at named values are the result at what they gather to. -/
theorem rowsRw_in (f : Buf (Elt F) ((c : Thread nD τ).loc main_v1_0)) : (((c : Thread nD τ).loc main_v1_0) ↦{fullShare} f : sProp 𝕄)
    ⊢ (bigSep Finset.univ (fun u : Fin 8 => iprop(∃ f, heldAt (F := F) c (rowsRw u) f)) : sProp 𝕄) :=
  (show (((c : Thread nD τ).loc main_v1_0) ↦{fullShare} f : sProp 𝕄) ⊢ iprop(∃ f : Buf (Elt F) ((c : Thread nD τ).loc main_v1_0), ((c : Thread nD τ).loc main_v1_0) ↦{fullShare} f) from by
    iintro H; iexists f; iexact H).trans
  (Ring.pieces_split (U := Pipeline.UD sig nD τ) (ℓ := (c : Thread nD τ).loc main_v1_0) (q := fullShare) rowsSet2 rowsSet2_disjoint rowsSet2_cover
    (fun u f => heldAt c (rowsRw u) f) (fun u f => held_rowsRw c u f))
theorem rowsRw_named (v : Fin 8 → S1024x2.Idx → Elt F .f32) (u : Fin 8) :
    holds (F := F) c (rowsRw u) (v u) ⊢ (((c : Thread nD τ).loc main_v1_0) ↦[rowsSet2 u]{fullShare} (gather2 v : Buf (Elt F) ((c : Thread nD τ).loc main_v1_0)) : sProp 𝕄) := by
  iintro ⟨%f, %hf, H⟩
  have hfg : ∀ i ∈ (rowsRw u).view.set, f i = gather2 v i := by
    intro i hi
    obtain ⟨y, rfl⟩ := Finset.mem_map.mp hi |>.imp fun _ h => h.2
    exact (congrFun hf y).trans (gather2_block v u y).symm
  iapply ((Entails.of_eq (pointsTo_congr hfg)).trans (Entails.of_eq (held_rowsRw c u (gather2 v)))); iexact H
theorem rowsRw_out (v : Fin 8 → S1024x2.Idx → Elt F .f32) :
    (bigSep Finset.univ (fun u : Fin 8 => holds (F := F) c (rowsRw u) (v u)) : sProp 𝕄)
      ⊢ (((c : Thread nD τ).loc main_v1_0) ↦{fullShare} (gather2 v : Buf (Elt F) ((c : Thread nD τ).loc main_v1_0)) : sProp 𝕄) :=
  by
  have h := Ring.pointsTo_blocks (Ix := Unit) (Name := ℕ) (U := Pipeline.UD sig nD τ) (Lvl := ℕ) (ℓ := (c : Thread nD τ).loc main_v1_0) (q := fullShare) rowsSet2 rowsSet2_disjoint rowsSet2_cover (gather2 v)
  rw [h]
  exact BI.bigSep_mono fun u _ => rowsRw_named c v u
/-- its cells, listed. -/
theorem cellsRw_eq : (bigSep Finset.univ (fun g : Fin 2 => cellZero (F := F) c (semRw g)) : sProp 𝕄)
    = iprop(semVal ((c : Thread nD τ), SemLoc.dma 4) 0 ∗ semVal ((c : Thread nD τ), SemLoc.dma 5) 0) := by
  rw [Ring.bigSep_fin2, semRw_eq 0, semRw_eq 1]; rfl

theorem rowsSel_set (u : Fin 8) : (rowsSel u).view.set = rowsSet2 u := View.set_slice_whole _ _
theorem slotSel_set (g : Fin 2) : (slotSel g).view.set = slotSet2 g := by
  simp only [slotSel, Memref.view_squeeze, View.set_reshape]; exact View.set_slice_whole _ _
theorem held_rowsSel (u : Fin 8) (f) : heldAt (F := F) c (rowsSel u) f = (((c : Thread nD τ).loc main_v1_1) ↦[rowsSet2 u]{fullShare} f : sProp 𝕄) := by
  unfold heldAt; rw [rowsSel_set]; rfl
theorem held_slotSel (g : Fin 2) (f) : heldAt (F := F) c (slotSel g) f = (((c : Thread nD τ).loc cc0_scratch2) ↦[slotSet2 g]{fullShare} f : sProp 𝕄) := by
  unfold heldAt; rw [slotSel_set]; rfl
/-- A staging pair whole is its two slots; -/
theorem slotsSel_in : iprop(∃ f : Buf (Elt F) ((c : Thread nD τ).loc cc0_scratch2), ((c : Thread nD τ).loc cc0_scratch2) ↦{fullShare} f)
    ⊢ (bigSep Finset.univ (fun g : Fin 2 => iprop(∃ e, heldAt (F := F) c (slotSel g) e)) : sProp 𝕄) :=
  Ring.pieces_split (U := Pipeline.UD sig nD τ) (ℓ := (c : Thread nD τ).loc cc0_scratch2) (q := fullShare) slotSet2 slotSet2_disjoint slotSet2_cover
    (fun g e => heldAt c (slotSel g) e) (fun g e => held_slotSel c g e)
theorem slotsSel_out : (bigSep Finset.univ (fun g : Fin 2 => iprop(∃ e, heldAt (F := F) c (slotSel g) e)) : sProp 𝕄)
    ⊢ iprop(∃ f : Buf (Elt F) ((c : Thread nD τ).loc cc0_scratch2), ((c : Thread nD τ).loc cc0_scratch2) ↦{fullShare} f) :=
  Ring.pieces_join (U := Pipeline.UD sig nD τ) (ℓ := (c : Thread nD τ).loc cc0_scratch2) (q := fullShare) slotSet2 slotSet2_disjoint slotSet2_cover
    (fun g e => heldAt c (slotSel g) e) (fun g e => held_slotSel c g e) (fun _ => Classical.arbitrary _)
/-- its result whole is its row blocks, and the row blocks at named values are the result at what they gather to. -/
theorem rowsSel_in (f : Buf (Elt F) ((c : Thread nD τ).loc main_v1_1)) : (((c : Thread nD τ).loc main_v1_1) ↦{fullShare} f : sProp 𝕄)
    ⊢ (bigSep Finset.univ (fun u : Fin 8 => iprop(∃ f, heldAt (F := F) c (rowsSel u) f)) : sProp 𝕄) :=
  (show (((c : Thread nD τ).loc main_v1_1) ↦{fullShare} f : sProp 𝕄) ⊢ iprop(∃ f : Buf (Elt F) ((c : Thread nD τ).loc main_v1_1), ((c : Thread nD τ).loc main_v1_1) ↦{fullShare} f) from by
    iintro H; iexists f; iexact H).trans
  (Ring.pieces_split (U := Pipeline.UD sig nD τ) (ℓ := (c : Thread nD τ).loc main_v1_1) (q := fullShare) rowsSet2 rowsSet2_disjoint rowsSet2_cover
    (fun u f => heldAt c (rowsSel u) f) (fun u f => held_rowsSel c u f))
theorem rowsSel_named (v : Fin 8 → S1024x2.Idx → Elt F .i32) (u : Fin 8) :
    holds (F := F) c (rowsSel u) (v u) ⊢ (((c : Thread nD τ).loc main_v1_1) ↦[rowsSet2 u]{fullShare} (gather2 v : Buf (Elt F) ((c : Thread nD τ).loc main_v1_1)) : sProp 𝕄) := by
  iintro ⟨%f, %hf, H⟩
  have hfg : ∀ i ∈ (rowsSel u).view.set, f i = gather2 v i := by
    intro i hi
    obtain ⟨y, rfl⟩ := Finset.mem_map.mp hi |>.imp fun _ h => h.2
    exact (congrFun hf y).trans (gather2_block v u y).symm
  iapply ((Entails.of_eq (pointsTo_congr hfg)).trans (Entails.of_eq (held_rowsSel c u (gather2 v)))); iexact H
theorem rowsSel_out (v : Fin 8 → S1024x2.Idx → Elt F .i32) :
    (bigSep Finset.univ (fun u : Fin 8 => holds (F := F) c (rowsSel u) (v u)) : sProp 𝕄)
      ⊢ (((c : Thread nD τ).loc main_v1_1) ↦{fullShare} (gather2 v : Buf (Elt F) ((c : Thread nD τ).loc main_v1_1)) : sProp 𝕄) :=
  by
  have h := Ring.pointsTo_blocks (Ix := Unit) (Name := ℕ) (U := Pipeline.UD sig nD τ) (Lvl := ℕ) (ℓ := (c : Thread nD τ).loc main_v1_1) (q := fullShare) rowsSet2 rowsSet2_disjoint rowsSet2_cover (gather2 v)
  rw [h]
  exact BI.bigSep_mono fun u _ => rowsSel_named c v u
/-- its cells, listed. -/
theorem cellsSel_eq : (bigSep Finset.univ (fun g : Fin 2 => cellZero (F := F) c (semSel g)) : sProp 𝕄)
    = iprop(semVal ((c : Thread nD τ), SemLoc.dma 6) 0 ∗ semVal ((c : Thread nD τ), SemLoc.dma 7) 0) := by
  rw [Ring.bigSep_fin2, semSel_eq 0, semSel_eq 1]; rfl

theorem rowsLog_set (u : Fin 8) : (rowsLog u).view.set = rowsSet16 u := View.set_slice_whole _ _
theorem slotLog_set (g : Fin 2) : (slotLog g).view.set = slotSet16 g := by
  simp only [slotLog, Memref.view_squeeze, View.set_reshape]; exact View.set_slice_whole _ _
theorem held_rowsLog (u : Fin 8) (f) : heldAt (F := F) c (rowsLog u) f = (((c : Thread nD τ).loc main_v1_2) ↦[rowsSet16 u]{fullShare} f : sProp 𝕄) := by
  unfold heldAt; rw [rowsLog_set]; rfl
theorem held_slotLog (g : Fin 2) (f) : heldAt (F := F) c (slotLog g) f = (((c : Thread nD τ).loc cc0_scratch3) ↦[slotSet16 g]{fullShare} f : sProp 𝕄) := by
  unfold heldAt; rw [slotLog_set]; rfl
/-- A staging pair whole is its two slots; -/
theorem slotsLog_in : iprop(∃ f : Buf (Elt F) ((c : Thread nD τ).loc cc0_scratch3), ((c : Thread nD τ).loc cc0_scratch3) ↦{fullShare} f)
    ⊢ (bigSep Finset.univ (fun g : Fin 2 => iprop(∃ e, heldAt (F := F) c (slotLog g) e)) : sProp 𝕄) :=
  Ring.pieces_split (U := Pipeline.UD sig nD τ) (ℓ := (c : Thread nD τ).loc cc0_scratch3) (q := fullShare) slotSet16 slotSet16_disjoint slotSet16_cover
    (fun g e => heldAt c (slotLog g) e) (fun g e => held_slotLog c g e)
theorem slotsLog_out : (bigSep Finset.univ (fun g : Fin 2 => iprop(∃ e, heldAt (F := F) c (slotLog g) e)) : sProp 𝕄)
    ⊢ iprop(∃ f : Buf (Elt F) ((c : Thread nD τ).loc cc0_scratch3), ((c : Thread nD τ).loc cc0_scratch3) ↦{fullShare} f) :=
  Ring.pieces_join (U := Pipeline.UD sig nD τ) (ℓ := (c : Thread nD τ).loc cc0_scratch3) (q := fullShare) slotSet16 slotSet16_disjoint slotSet16_cover
    (fun g e => heldAt c (slotLog g) e) (fun g e => held_slotLog c g e) (fun _ => Classical.arbitrary _)
/-- its result whole is its row blocks, and the row blocks at named values are the result at what they gather to. -/
theorem rowsLog_in (f : Buf (Elt F) ((c : Thread nD τ).loc main_v1_2)) : (((c : Thread nD τ).loc main_v1_2) ↦{fullShare} f : sProp 𝕄)
    ⊢ (bigSep Finset.univ (fun u : Fin 8 => iprop(∃ f, heldAt (F := F) c (rowsLog u) f)) : sProp 𝕄) :=
  (show (((c : Thread nD τ).loc main_v1_2) ↦{fullShare} f : sProp 𝕄) ⊢ iprop(∃ f : Buf (Elt F) ((c : Thread nD τ).loc main_v1_2), ((c : Thread nD τ).loc main_v1_2) ↦{fullShare} f) from by
    iintro H; iexists f; iexact H).trans
  (Ring.pieces_split (U := Pipeline.UD sig nD τ) (ℓ := (c : Thread nD τ).loc main_v1_2) (q := fullShare) rowsSet16 rowsSet16_disjoint rowsSet16_cover
    (fun u f => heldAt c (rowsLog u) f) (fun u f => held_rowsLog c u f))
theorem rowsLog_named (v : Fin 8 → S1024x16.Idx → Elt F .f32) (u : Fin 8) :
    holds (F := F) c (rowsLog u) (v u) ⊢ (((c : Thread nD τ).loc main_v1_2) ↦[rowsSet16 u]{fullShare} (gather16 v : Buf (Elt F) ((c : Thread nD τ).loc main_v1_2)) : sProp 𝕄) := by
  iintro ⟨%f, %hf, H⟩
  have hfg : ∀ i ∈ (rowsLog u).view.set, f i = gather16 v i := by
    intro i hi
    obtain ⟨y, rfl⟩ := Finset.mem_map.mp hi |>.imp fun _ h => h.2
    exact (congrFun hf y).trans (gather16_block v u y).symm
  iapply ((Entails.of_eq (pointsTo_congr hfg)).trans (Entails.of_eq (held_rowsLog c u (gather16 v)))); iexact H
theorem rowsLog_out (v : Fin 8 → S1024x16.Idx → Elt F .f32) :
    (bigSep Finset.univ (fun u : Fin 8 => holds (F := F) c (rowsLog u) (v u)) : sProp 𝕄)
      ⊢ (((c : Thread nD τ).loc main_v1_2) ↦{fullShare} (gather16 v : Buf (Elt F) ((c : Thread nD τ).loc main_v1_2)) : sProp 𝕄) :=
  by
  have h := Ring.pointsTo_blocks (Ix := Unit) (Name := ℕ) (U := Pipeline.UD sig nD τ) (Lvl := ℕ) (ℓ := (c : Thread nD τ).loc main_v1_2) (q := fullShare) rowsSet16 rowsSet16_disjoint rowsSet16_cover (gather16 v)
  rw [h]
  exact BI.bigSep_mono fun u _ => rowsLog_named c v u
/-- its cells, listed. -/
theorem cellsLog_eq : (bigSep Finset.univ (fun g : Fin 2 => cellZero (F := F) c (semLog g)) : sProp 𝕄)
    = iprop(semVal ((c : Thread nD τ), SemLoc.dma 8) 0 ∗ semVal ((c : Thread nD τ), SemLoc.dma 9) 0) := by
  rw [Ring.bigSep_fin2, semLog_eq 0, semLog_eq 1]; rfl

/-! ## The ring -/

/-- Group `g` free: its cells at zero, its slots at anything. -/
def free (g : Fin 2) : sProp 𝕄 := iprop((cellZero (F := F) c (semRw g) ∗ ∃ e, heldAt c (slotRw g) e)
    ∗ (cellZero (F := F) c (semSel g) ∗ ∃ e, heldAt c (slotSel g) e)
    ∗ (cellZero (F := F) c (semLog g) ∗ ∃ e, heldAt c (slotLog g) e))
/-- The row blocks of a point to come, at anything. -/
def ahead (u : Fin 8) : sProp 𝕄 := iprop((∃ f, heldAt (F := F) c (rowsRw u) f)
    ∗ (∃ f, heldAt (F := F) c (rowsSel u) f)
    ∗ (∃ f, heldAt (F := F) c (rowsLog u) f))
/-- Group `g` in flight with point `u`'s copies, which will deliver the values named. -/
def infl (vRw : Fin 8 → S1024x2.Idx → Elt F .f32) (vSel : Fin 8 → S1024x2.Idx → Elt F .i32) (vLog : Fin 8 → S1024x16.Idx → Elt F .f32) (g : Fin 2) (u : Fin 8) : sProp 𝕄 :=
  iprop(flying c (slotRw g) (rowsRw u) (semRw g) (vRw u)
    ∗ flying c (slotSel g) (rowsSel u) (semSel g) (vSel u)
    ∗ flying c (slotLog g) (rowsLog u) (semLog g) (vLog u))
/-- The row blocks of a point whose copies are done, at the values named. -/
def behind (vRw : Fin 8 → S1024x2.Idx → Elt F .f32) (vSel : Fin 8 → S1024x2.Idx → Elt F .i32) (vLog : Fin 8 → S1024x16.Idx → Elt F .f32) (u : Fin 8) : sProp 𝕄 := iprop(holds c (rowsRw u) (vRw u)
    ∗ holds c (rowsSel u) (vSel u)
    ∗ holds c (rowsLog u) (vLog u))

/-- Before the first point: the staging pairs, the results at anything, the cells at zero. -/
theorem ring_in (f1 : Buf (Elt F) ((c : Thread nD τ).loc main_v1_0)) (f2 : Buf (Elt F) ((c : Thread nD τ).loc main_v1_1)) (f3 : Buf (Elt F) ((c : Thread nD τ).loc main_v1_2)) :
    iprop((∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
        ∗ (semVal ((c : Thread nD τ), SemLoc.dma 4) 0 ∗ semVal ((c : Thread nD τ), SemLoc.dma 5) 0)
    ∗ (semVal ((c : Thread nD τ), SemLoc.dma 6) 0 ∗ semVal ((c : Thread nD τ), SemLoc.dma 7) 0)
    ∗ (semVal ((c : Thread nD τ), SemLoc.dma 8) 0 ∗ semVal ((c : Thread nD τ), SemLoc.dma 9) 0)
        ∗ (((c : Thread nD τ).loc main_v1_0) ↦{fullShare} f1) ∗ (((c : Thread nD τ).loc main_v1_1) ↦{fullShare} f2) ∗ (((c : Thread nD τ).loc main_v1_2) ↦{fullShare} f3))
      ⊢ (iprop(bigSep Finset.univ (ahead (F := F) c) ∗ bigSep Finset.univ (free (F := F) c)) : sProp 𝕄) := by
  rw [← cellsRw_eq, ← cellsSel_eq, ← cellsLog_eq]
  unfold ahead free
  simp only [BI.bigSep_sep']
  iintro ⟨S1, S2, S3, C1, C2, C3, P1, P2, P3⟩
  isplitl [P1 P2 P3]
  · isplitl [P1]; · iapply (rowsRw_in c f1); iexact P1
    isplitl [P2]; · iapply (rowsSel_in c f2); iexact P2
    iapply (rowsLog_in c f3); iexact P3
  isplitl [C1 S1]
  · isplitl [C1]; · iexact C1
    iapply (slotsRw_in c); iexact S1
  isplitl [C2 S2]
  · isplitl [C2]; · iexact C2
    iapply (slotsSel_in c); iexact S2
  isplitl [C3]; · iexact C3
  iapply (slotsLog_in c); iexact S3
/-- After the last point: the same, the results at what their blocks gather to. -/
theorem ring_out (vRw : Fin 8 → S1024x2.Idx → Elt F .f32) (vSel : Fin 8 → S1024x2.Idx → Elt F .i32) (vLog : Fin 8 → S1024x16.Idx → Elt F .f32) :
    (iprop(bigSep Finset.univ (behind c vRw vSel vLog) ∗ bigSep Finset.univ (free (F := F) c)) : sProp 𝕄) ⊢
    iprop((∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
        ∗ (semVal ((c : Thread nD τ), SemLoc.dma 4) 0 ∗ semVal ((c : Thread nD τ), SemLoc.dma 5) 0)
    ∗ (semVal ((c : Thread nD τ), SemLoc.dma 6) 0 ∗ semVal ((c : Thread nD τ), SemLoc.dma 7) 0)
    ∗ (semVal ((c : Thread nD τ), SemLoc.dma 8) 0 ∗ semVal ((c : Thread nD τ), SemLoc.dma 9) 0)
        ∗ (((c : Thread nD τ).loc main_v1_0) ↦{fullShare} (gather2 vRw : Buf (Elt F) ((c : Thread nD τ).loc main_v1_0)))
        ∗ (((c : Thread nD τ).loc main_v1_1) ↦{fullShare} (gather2 vSel : Buf (Elt F) ((c : Thread nD τ).loc main_v1_1)))
        ∗ (((c : Thread nD τ).loc main_v1_2) ↦{fullShare} (gather16 vLog : Buf (Elt F) ((c : Thread nD τ).loc main_v1_2)))) := by
  rw [← cellsRw_eq, ← cellsSel_eq, ← cellsLog_eq]
  unfold behind free
  simp only [BI.bigSep_sep']
  iintro ⟨⟨P1, P2, P3⟩, ⟨C1, S1⟩, ⟨C2, S2⟩, C3, S3⟩
  isplitl [S1]; · iapply (slotsRw_out c); iexact S1
  isplitl [S2]; · iapply (slotsSel_out c); iexact S2
  isplitl [S3]; · iapply (slotsLog_out c); iexact S3
  isplitl [C1]; · iexact C1
  isplitl [C2]; · iexact C2
  isplitl [C3]; · iexact C3
  isplitl [P1]; · iapply (rowsRw_out c vRw); iexact P1
  isplitl [P2]; · iapply (rowsSel_out c vSel); iexact P2
  iapply (rowsLog_out c vLog); iexact P3

end Cert.KernelIdeal.Hand

end
-- ==== Proof.KI.RunA.lean ====
/- The first two points: a run of the body that drains nothing. -/
module

public import proofs.«01_k».proof.Proof.KI.Family

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (Pipeline.UD sig nD τ) ℕ

set_option maxHeartbeats 2000000 in
/-- The first point: the accumulator is cleared, nothing is drained; the three copies of block 0 are started. -/
theorem runFirst (c : Dev nD) (t : Fin cfg0.N) (arg1 : Memref sig .tc .vmem S1024x4096 .f32) (harg1 : arg1.IsWhole)
    (arg2 : Memref sig .tc .vmem S4096x16 .f32) (harg2 : arg2.IsWhole) (arg6 : Memref sig .tc .vmem S1x1 .f32) (harg6 : arg6.IsWhole)
    (hd : ¬ k0_cond1 (grid0.coords t) = 1#1) (hz : clears (grid0.coords t)) (he : ¬ k0_cond3 (grid0.coords t) = 1#1)
    (x : Vec F S1024x4096 .f32) (w : Vec F S4096x16 .f32)
    (xi : Vec F S1x1 .f32) (W : Waits sig Unit) (K : PUnit → sProp 𝕄) :
    iprop(owns (c : Thread nD τ) arg1 fullShare x
        ∗ owns (c : Thread nD τ) arg2 fullShare w
        ∗ owns (c : Thread nD τ) arg6 fullShare xi
        ∗ (∃ d, owns (c : Thread nD τ) scAcc fullShare d)
        ∗ (∃ f, heldAt c (rowsRw (blk t.val)) f)
        ∗ (∃ f, heldAt c (rowsSel (blk t.val)) f)
        ∗ (∃ f, heldAt c (rowsLog (blk t.val)) f)
        ∗ (cellZero (F := F) c (semRw (now t)) ∗ ∃ e, heldAt c (slotRw (now t)) e)
        ∗ (cellZero (F := F) c (semSel (now t)) ∗ ∃ e, heldAt c (slotSel (now t)) e)
        ∗ (cellZero (F := F) c (semLog (now t)) ∗ ∃ e, heldAt c (slotLog (now t)) e)
        ∗ owes (c : Thread nD τ) 0 W
        ∗ (iprop(owns (c : Thread nD τ) arg1 fullShare x
            ∗ owns (c : Thread nD τ) arg2 fullShare w
            ∗ owns (c : Thread nD τ) arg6 fullShare xi
            ∗ owns (c : Thread nD τ) scAcc fullShare (accStep x w k0_pay1)
            ∗ flying c (slotRw (now t)) (rowsRw (blk t.val)) (semRw (now t)) (outRw x w)
            ∗ flying c (slotSel (now t)) (rowsSel (blk t.val)) (semSel (now t)) (outSel x w)
            ∗ flying c (slotLog (now t)) (rowsLog (blk t.val)) (semLog (now t)) (outLog x w)
            ∗ (∃ W', owes (c : Thread nD τ) 0 W')) -∗ K ⟨⟩))
      ⊢ wp frame (wpE (defs₀ (F := F)) Variants.none c none) Set.univ
          (cc0__router_body (grid0.coords t) arg1 harg1 arg2 harg2 (Memref.whole main_v1_0) (Memref.isWhole_whole _) (Memref.whole main_v1_1) (Memref.isWhole_whole _) (Memref.whole main_v1_2) (Memref.isWhole_whole _) arg6 harg6 scAcc (Memref.isWhole_whole _) scRw (Memref.isWhole_whole _) scSel (Memref.isWhole_whole _) scLog (Memref.isWhole_whole _) cc0_scratch4 cc0_scratch5 cc0_scratch6) K := by
  haveI : Fact (¬ k0_cond1 (grid0.coords t) = 1#1) := ⟨hd⟩
  haveI : Fact (clears (grid0.coords t)) := ⟨hz⟩
  haveI : Fact (¬ k0_cond3 (grid0.coords t) = 1#1) := ⟨he⟩
  simp only [cc0__router_body_eq_skeleton]; unfold cc0__router_body_skel
  simp only [k0_part1_eq_skeleton, k0_part2_eq_skeleton, k0_part3_eq_skeleton]
  unfold k0_part2_skel k0_part3_skel
  unfold owns
  iintro ⟨⟨%f0, %hf0, H0⟩, ⟨%f1, %hf1, H1⟩, ⟨%f2, %hf2, H2⟩, ⟨%da, %fa, -, HA⟩, ⟨%p1, P1⟩, ⟨%p2, P2⟩, ⟨%p3, P3⟩, ⟨F1, %e1, T1⟩, ⟨F2, %e2, T2⟩, ⟨F3, %e3, T3⟩, HW, Hk⟩
  obtain rfl := harg1.eq_unread hf0; obtain rfl := harg2.eq_unread hf1; obtain rfl := harg6.eq_unread hf2
  sl_exec (disch := first | sl_exact hd | sl_exact hz | sl_exact he)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg6.read_unread _
    iexact H2
  isplitl [HA]
  · iexists _; isplitr; swap; · iexact HA
    ipureintro
    refine (cleared_put scAcc.view fa k0_pay1 _ _).trans ?_
    unfold accStep
    refine congrArg₂ (fun u v => VecWindow.put (VecWindow.put k0_pay1 ![0, 0] ![1, 16] u) ![1, 0] ![1, 16] v) ?_ ?_
    · simp only [load_rows harg1, load_wts harg2]
      exact congrArg (k0_pay2 lanes (k0_pay8 x w)) (cleared_row0 scAcc.view k0_pay1)
    · simp only [load_rows harg1, load_wts harg2]
      exact congrArg (k0_pay3 (k0_pay7 x w)) (cleared_row1_past scAcc.view k0_pay1 _)
  isplitl [F1]
  · iexists _, _; isplitr; swap; · iexact F1
    ipureintro
    rw [View.read_writes_whole]
    refine (slotRw_store t _ _).trans (congrArg flat2 ?_)
    simp only [load_rows harg1, load_wts harg2]
    rfl
  isplitl [F2]
  · iexists _, _; isplitr; swap; · iexact F2
    ipureintro
    rw [View.read_writes_whole]
    refine (slotSel_store t _ _).trans (congrArg flat2 ?_)
    simp only [load_rows harg1, load_wts harg2]
    rfl
  isplitl [F3]
  · iexists _, _; isplitr; swap; · iexact F3
    ipureintro
    rw [View.read_writes_whole]
    refine (slotLog_store t _ _).trans (congrArg flat16 ?_)
    simp only [load_rows harg1, load_wts harg2]
    rfl
  iexists _; iexact HW

set_option maxHeartbeats 2000000 in
/-- The second point: nothing is drained; the three copies of its block are started. -/
theorem runSecond (c : Dev nD) (t : Fin cfg0.N) (arg1 : Memref sig .tc .vmem S1024x4096 .f32) (harg1 : arg1.IsWhole)
    (arg2 : Memref sig .tc .vmem S4096x16 .f32) (harg2 : arg2.IsWhole) (arg6 : Memref sig .tc .vmem S1x1 .f32) (harg6 : arg6.IsWhole)
    (hd : ¬ k0_cond1 (grid0.coords t) = 1#1) (hz : ¬ clears (grid0.coords t)) (he : ¬ k0_cond3 (grid0.coords t) = 1#1)
    (x : Vec F S1024x4096 .f32) (w : Vec F S4096x16 .f32) (a : Vec F S2x16 .f32)
    (xi : Vec F S1x1 .f32) (W : Waits sig Unit) (K : PUnit → sProp 𝕄) :
    iprop(owns (c : Thread nD τ) arg1 fullShare x
        ∗ owns (c : Thread nD τ) arg2 fullShare w
        ∗ owns (c : Thread nD τ) arg6 fullShare xi
        ∗ owns (c : Thread nD τ) scAcc fullShare a
        ∗ (∃ f, heldAt c (rowsRw (blk t.val)) f)
        ∗ (∃ f, heldAt c (rowsSel (blk t.val)) f)
        ∗ (∃ f, heldAt c (rowsLog (blk t.val)) f)
        ∗ (cellZero (F := F) c (semRw (now t)) ∗ ∃ e, heldAt c (slotRw (now t)) e)
        ∗ (cellZero (F := F) c (semSel (now t)) ∗ ∃ e, heldAt c (slotSel (now t)) e)
        ∗ (cellZero (F := F) c (semLog (now t)) ∗ ∃ e, heldAt c (slotLog (now t)) e)
        ∗ owes (c : Thread nD τ) 0 W
        ∗ (iprop(owns (c : Thread nD τ) arg1 fullShare x
            ∗ owns (c : Thread nD τ) arg2 fullShare w
            ∗ owns (c : Thread nD τ) arg6 fullShare xi
            ∗ owns (c : Thread nD τ) scAcc fullShare (accStep x w a)
            ∗ flying c (slotRw (now t)) (rowsRw (blk t.val)) (semRw (now t)) (outRw x w)
            ∗ flying c (slotSel (now t)) (rowsSel (blk t.val)) (semSel (now t)) (outSel x w)
            ∗ flying c (slotLog (now t)) (rowsLog (blk t.val)) (semLog (now t)) (outLog x w)
            ∗ (∃ W', owes (c : Thread nD τ) 0 W')) -∗ K ⟨⟩))
      ⊢ wp frame (wpE (defs₀ (F := F)) Variants.none c none) Set.univ
          (cc0__router_body (grid0.coords t) arg1 harg1 arg2 harg2 (Memref.whole main_v1_0) (Memref.isWhole_whole _) (Memref.whole main_v1_1) (Memref.isWhole_whole _) (Memref.whole main_v1_2) (Memref.isWhole_whole _) arg6 harg6 scAcc (Memref.isWhole_whole _) scRw (Memref.isWhole_whole _) scSel (Memref.isWhole_whole _) scLog (Memref.isWhole_whole _) cc0_scratch4 cc0_scratch5 cc0_scratch6) K := by
  haveI : Fact (¬ k0_cond1 (grid0.coords t) = 1#1) := ⟨hd⟩
  haveI : Fact (¬ clears (grid0.coords t)) := ⟨hz⟩
  haveI : Fact (¬ k0_cond3 (grid0.coords t) = 1#1) := ⟨he⟩
  simp only [cc0__router_body_eq_skeleton]; unfold cc0__router_body_skel
  simp only [k0_part1_eq_skeleton, k0_part2_eq_skeleton, k0_part3_eq_skeleton]
  unfold k0_part2_skel k0_part3_skel
  unfold owns
  iintro ⟨⟨%f0, %hf0, H0⟩, ⟨%f1, %hf1, H1⟩, ⟨%f2, %hf2, H2⟩, ⟨%fa, %hfa, HA⟩, ⟨%p1, P1⟩, ⟨%p2, P2⟩, ⟨%p3, P3⟩, ⟨F1, %e1, T1⟩, ⟨F2, %e2, T2⟩, ⟨F3, %e3, T3⟩, HW, Hk⟩
  obtain rfl := harg1.eq_unread hf0; obtain rfl := harg2.eq_unread hf1; obtain rfl := harg6.eq_unread hf2; subst hfa
  sl_exec (disch := first | sl_exact hd | sl_exact hz | sl_exact he)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg6.read_unread _
    iexact H2
  isplitl [HA]
  · iexists _; isplitr; swap; · iexact HA
    ipureintro
    refine (rows_put scAcc.view _ _ _).trans ?_
    simp only [load_rows harg1, load_wts harg2]
    rfl
  isplitl [F1]
  · iexists _, _; isplitr; swap; · iexact F1
    ipureintro
    rw [View.read_writes_whole]
    refine (slotRw_store t _ _).trans (congrArg flat2 ?_)
    simp only [load_rows harg1, load_wts harg2]
    rfl
  isplitl [F2]
  · iexists _, _; isplitr; swap; · iexact F2
    ipureintro
    rw [View.read_writes_whole]
    refine (slotSel_store t _ _).trans (congrArg flat2 ?_)
    simp only [load_rows harg1, load_wts harg2]
    rfl
  isplitl [F3]
  · iexists _, _; isplitr; swap; · iexact F3
    ipureintro
    rw [View.read_writes_whole]
    refine (slotLog_store t _ _).trans (congrArg flat16 ?_)
    simp only [load_rows harg1, load_wts harg2]
    rfl
  iexists _; iexact HW

end Cert.KernelIdeal.Hand

end
-- ==== Proof.KI.RunB.lean ====
/- A point from the third to the last but one: the run of the body. -/
module

public import proofs.«01_k».proof.Proof.KI.Family

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (Pipeline.UD sig nD τ) ℕ

set_option maxHeartbeats 2000000 in
/-- A point from the third to the last but one: the copies of two points back are drained, then this point's are started. -/
theorem runSteady (c : Dev nD) (t : Fin cfg0.N) (arg1 : Memref sig .tc .vmem S1024x4096 .f32) (harg1 : arg1.IsWhole)
    (arg2 : Memref sig .tc .vmem S4096x16 .f32) (harg2 : arg2.IsWhole) (arg6 : Memref sig .tc .vmem S1x1 .f32) (harg6 : arg6.IsWhole)
    (hd : k0_cond1 (grid0.coords t) = 1#1) (hz : ¬ clears (grid0.coords t)) (he : ¬ k0_cond3 (grid0.coords t) = 1#1)
    (x : Vec F S1024x4096 .f32) (w : Vec F S4096x16 .f32) (a : Vec F S2x16 .f32)
    (u1 : S1024x2.Idx → Elt F .f32) (u2 : S1024x2.Idx → Elt F .i32) (u3 : S1024x16.Idx → Elt F .f32)
    (xi : Vec F S1x1 .f32) (W : Waits sig Unit) (K : PUnit → sProp 𝕄) :
    iprop(owns (c : Thread nD τ) arg1 fullShare x
        ∗ owns (c : Thread nD τ) arg2 fullShare w
        ∗ owns (c : Thread nD τ) arg6 fullShare xi
        ∗ owns (c : Thread nD τ) scAcc fullShare a
        ∗ (∃ f, heldAt c (rowsRw (blk t.val)) f)
        ∗ (∃ f, heldAt c (rowsSel (blk t.val)) f)
        ∗ (∃ f, heldAt c (rowsLog (blk t.val)) f)
        ∗ flying c (slotRw (now t)) (rowsRw (blk (t.val - 2))) (semRw (now t)) u1
        ∗ flying c (slotSel (now t)) (rowsSel (blk (t.val - 2))) (semSel (now t)) u2
        ∗ flying c (slotLog (now t)) (rowsLog (blk (t.val - 2))) (semLog (now t)) u3
        ∗ owes (c : Thread nD τ) 0 W
        ∗ (iprop(owns (c : Thread nD τ) arg1 fullShare x
            ∗ owns (c : Thread nD τ) arg2 fullShare w
            ∗ owns (c : Thread nD τ) arg6 fullShare xi
            ∗ owns (c : Thread nD τ) scAcc fullShare (accStep x w a)
            ∗ holds c (rowsRw (blk (t.val - 2))) u1
            ∗ holds c (rowsSel (blk (t.val - 2))) u2
            ∗ holds c (rowsLog (blk (t.val - 2))) u3
            ∗ flying c (slotRw (now t)) (rowsRw (blk t.val)) (semRw (now t)) (outRw x w)
            ∗ flying c (slotSel (now t)) (rowsSel (blk t.val)) (semSel (now t)) (outSel x w)
            ∗ flying c (slotLog (now t)) (rowsLog (blk t.val)) (semLog (now t)) (outLog x w)
            ∗ (∃ W', owes (c : Thread nD τ) 0 W')) -∗ K ⟨⟩))
      ⊢ wp frame (wpE (defs₀ (F := F)) Variants.none c none) Set.univ
          (cc0__router_body (grid0.coords t) arg1 harg1 arg2 harg2 (Memref.whole main_v1_0) (Memref.isWhole_whole _) (Memref.whole main_v1_1) (Memref.isWhole_whole _) (Memref.whole main_v1_2) (Memref.isWhole_whole _) arg6 harg6 scAcc (Memref.isWhole_whole _) scRw (Memref.isWhole_whole _) scSel (Memref.isWhole_whole _) scLog (Memref.isWhole_whole _) cc0_scratch4 cc0_scratch5 cc0_scratch6) K := by
  haveI : Fact (k0_cond1 (grid0.coords t) = 1#1) := ⟨hd⟩
  haveI : Fact (¬ clears (grid0.coords t)) := ⟨hz⟩
  haveI : Fact (¬ k0_cond3 (grid0.coords t) = 1#1) := ⟨he⟩
  simp only [cc0__router_body_eq_skeleton]; unfold cc0__router_body_skel
  simp only [k0_part1_eq_skeleton, k0_part2_eq_skeleton, k0_part3_eq_skeleton]
  unfold k0_part2_skel k0_part3_skel
  unfold owns
  iintro ⟨⟨%f0, %hf0, H0⟩, ⟨%f1, %hf1, H1⟩, ⟨%f2, %hf2, H2⟩, ⟨%fa, %hfa, HA⟩, ⟨%p1, P1⟩, ⟨%p2, P2⟩, ⟨%p3, P3⟩, ⟨%b1, %e1, %hb1, F1⟩, ⟨%b2, %e2, %hb2, F2⟩, ⟨%b3, %e3, %hb3, F3⟩, HW, Hk⟩
  obtain rfl := harg1.eq_unread hf0; obtain rfl := harg2.eq_unread hf1; obtain rfl := harg6.eq_unread hf2; subst hfa
  sl_exec (disch := first | sl_exact hd | sl_exact hz | sl_exact he)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg6.read_unread _
    iexact H2
  isplitl [HA]
  · iexists _; isplitr; swap; · iexact HA
    ipureintro
    refine (rows_put scAcc.view _ _ _).trans ?_
    simp only [load_rows harg1, load_wts harg2]
    rfl
  isplitl [F1_dst]
  · iexists _; isplitr; swap; · iexact F1_dst
    ipureintro; exact hb1
  isplitl [F2_dst]
  · iexists _; isplitr; swap; · iexact F2_dst
    ipureintro; exact hb2
  isplitl [F3_dst]
  · iexists _; isplitr; swap; · iexact F3_dst
    ipureintro; exact hb3
  isplitl [F1]
  · iexists _, _; isplitr; swap; · iexact F1
    ipureintro
    rw [View.read_writes_whole]
    refine (slotRw_store t _ _).trans (congrArg flat2 ?_)
    simp only [load_rows harg1, load_wts harg2]
    rfl
  isplitl [F2]
  · iexists _, _; isplitr; swap; · iexact F2
    ipureintro
    rw [View.read_writes_whole]
    refine (slotSel_store t _ _).trans (congrArg flat2 ?_)
    simp only [load_rows harg1, load_wts harg2]
    rfl
  isplitl [F3]
  · iexists _, _; isplitr; swap; · iexact F3
    ipureintro
    rw [View.read_writes_whole]
    refine (slotLog_store t _ _).trans (congrArg flat16 ?_)
    simp only [load_rows harg1, load_wts harg2]
    rfl
  iexists _; iexact HW

end Cert.KernelIdeal.Hand

end
-- ==== Proof.KI.RunC.lean ====
/- The last point: the run of the body that drains everything. -/
module

public import proofs.«01_k».proof.Proof.KI.Family

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (Pipeline.UD sig nD τ) ℕ

set_option maxHeartbeats 2000000 in
/-- The last point: the copies of two points back are drained, this point's started, then every copy left is drained, and
    the auxiliary loss is stored. -/
theorem runLast (c : Dev nD) (t : Fin cfg0.N) (arg1 : Memref sig .tc .vmem S1024x4096 .f32) (harg1 : arg1.IsWhole)
    (arg2 : Memref sig .tc .vmem S4096x16 .f32) (harg2 : arg2.IsWhole) (arg6 : Memref sig .tc .vmem S1x1 .f32) (harg6 : arg6.IsWhole)
    (hd : k0_cond1 (grid0.coords t) = 1#1) (hz : ¬ clears (grid0.coords t)) (he : k0_cond3 (grid0.coords t) = 1#1)
    (x : Vec F S1024x4096 .f32) (w : Vec F S4096x16 .f32) (a : Vec F S2x16 .f32)
    (u1 : S1024x2.Idx → Elt F .f32) (u2 : S1024x2.Idx → Elt F .i32) (u3 : S1024x16.Idx → Elt F .f32)
    (u4 : S1024x2.Idx → Elt F .f32) (u5 : S1024x2.Idx → Elt F .i32) (u6 : S1024x16.Idx → Elt F .f32)
    (W : Waits sig Unit) (K : PUnit → sProp 𝕄) :
    iprop(owns (c : Thread nD τ) arg1 fullShare x
        ∗ owns (c : Thread nD τ) arg2 fullShare w
        ∗ (∃ d, owns (c : Thread nD τ) arg6 fullShare d)
        ∗ owns (c : Thread nD τ) scAcc fullShare a
        ∗ (∃ f, heldAt c (rowsRw (blk t.val)) f)
        ∗ (∃ f, heldAt c (rowsSel (blk t.val)) f)
        ∗ (∃ f, heldAt c (rowsLog (blk t.val)) f)
        ∗ flying c (slotRw (now t)) (rowsRw (blk (t.val - 2))) (semRw (now t)) u1
        ∗ flying c (slotSel (now t)) (rowsSel (blk (t.val - 2))) (semSel (now t)) u2
        ∗ flying c (slotLog (now t)) (rowsLog (blk (t.val - 2))) (semLog (now t)) u3
        ∗ flying c (slotRw (oth t)) (rowsRw (blk (t.val - 1))) (semRw (oth t)) u4
        ∗ flying c (slotSel (oth t)) (rowsSel (blk (t.val - 1))) (semSel (oth t)) u5
        ∗ flying c (slotLog (oth t)) (rowsLog (blk (t.val - 1))) (semLog (oth t)) u6
        ∗ owes (c : Thread nD τ) 0 W
        ∗ (iprop(owns (c : Thread nD τ) arg1 fullShare x
            ∗ owns (c : Thread nD τ) arg2 fullShare w
            ∗ owns (c : Thread nD τ) arg6 fullShare (auxOf (accStep x w a))
            ∗ owns (c : Thread nD τ) scAcc fullShare (accStep x w a)
            ∗ holds c (rowsRw (blk (t.val - 2))) u1
            ∗ holds c (rowsSel (blk (t.val - 2))) u2
            ∗ holds c (rowsLog (blk (t.val - 2))) u3
            ∗ holds c (rowsRw (blk (t.val - 1))) u4
            ∗ holds c (rowsSel (blk (t.val - 1))) u5
            ∗ holds c (rowsLog (blk (t.val - 1))) u6
            ∗ holds c (rowsRw (blk t.val)) (outRw x w)
            ∗ holds c (rowsSel (blk t.val)) (outSel x w)
            ∗ holds c (rowsLog (blk t.val)) (outLog x w)
            ∗ (cellZero (F := F) c (semRw (now t)) ∗ ∃ e, heldAt c (slotRw (now t)) e)
            ∗ (cellZero (F := F) c (semSel (now t)) ∗ ∃ e, heldAt c (slotSel (now t)) e)
            ∗ (cellZero (F := F) c (semLog (now t)) ∗ ∃ e, heldAt c (slotLog (now t)) e)
            ∗ (cellZero (F := F) c (semRw (oth t)) ∗ ∃ e, heldAt c (slotRw (oth t)) e)
            ∗ (cellZero (F := F) c (semSel (oth t)) ∗ ∃ e, heldAt c (slotSel (oth t)) e)
            ∗ (cellZero (F := F) c (semLog (oth t)) ∗ ∃ e, heldAt c (slotLog (oth t)) e)
            ∗ (∃ W', owes (c : Thread nD τ) 0 W')) -∗ K ⟨⟩))
      ⊢ wp frame (wpE (defs₀ (F := F)) Variants.none c none) Set.univ
          (cc0__router_body (grid0.coords t) arg1 harg1 arg2 harg2 (Memref.whole main_v1_0) (Memref.isWhole_whole _) (Memref.whole main_v1_1) (Memref.isWhole_whole _) (Memref.whole main_v1_2) (Memref.isWhole_whole _) arg6 harg6 scAcc (Memref.isWhole_whole _) scRw (Memref.isWhole_whole _) scSel (Memref.isWhole_whole _) scLog (Memref.isWhole_whole _) cc0_scratch4 cc0_scratch5 cc0_scratch6) K := by
  haveI : Fact (k0_cond1 (grid0.coords t) = 1#1) := ⟨hd⟩
  haveI : Fact (¬ clears (grid0.coords t)) := ⟨hz⟩
  haveI : Fact (k0_cond3 (grid0.coords t) = 1#1) := ⟨he⟩
  simp only [cc0__router_body_eq_skeleton]; unfold cc0__router_body_skel
  simp only [k0_part1_eq_skeleton, k0_part2_eq_skeleton, k0_part3_eq_skeleton]
  unfold k0_part1_skel k0_part2_skel k0_part3_skel
  unfold owns
  iintro ⟨⟨%f0, %hf0, H0⟩, ⟨%f1, %hf1, H1⟩, ⟨%d2, %f2, -, H2⟩, ⟨%fa, %hfa, HA⟩, ⟨%p1, P1⟩, ⟨%p2, P2⟩, ⟨%p3, P3⟩, ⟨%b1, %e1, %hb1, F1⟩, ⟨%b2, %e2, %hb2, F2⟩, ⟨%b3, %e3, %hb3, F3⟩, ⟨%b4, %e4, %hb4, F4⟩, ⟨%b5, %e5, %hb5, F5⟩, ⟨%b6, %e6, %hb6, F6⟩, HW, Hk⟩
  obtain rfl := harg1.eq_unread hf0; obtain rfl := harg2.eq_unread hf1; subst hfa
  sl_exec (disch := first | sl_exact hd | sl_exact hz | sl_exact he)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    refine (View.read_writes_full arg6.view _ inb_S1x1_S1x1_0_0 _ []).trans ?_
    unfold auxOf
    rw [row0_accStep, row1_accStep]
    refine congrArg₂ k0_pay4 ((rows_back0 scAcc.view _ _).trans ?_) ((rows_back1 scAcc.view _ _).trans ?_)
    · simp only [load_rows harg1, load_wts harg2]; rfl
    · simp only [load_rows harg1, load_wts harg2]; rfl
  isplitl [HA]
  · iexists _; isplitr; swap; · iexact HA
    ipureintro
    refine (rows_put scAcc.view _ _ _).trans ?_
    simp only [load_rows harg1, load_wts harg2]
    rfl
  isplitl [F1_dst]
  · iexists _; isplitr; swap; · iexact F1_dst
    ipureintro; exact hb1
  isplitl [F2_dst]
  · iexists _; isplitr; swap; · iexact F2_dst
    ipureintro; exact hb2
  isplitl [F3_dst]
  · iexists _; isplitr; swap; · iexact F3_dst
    ipureintro; exact hb3
  isplitl [F4_dst]
  · iexists _; isplitr; swap; · iexact F4_dst
    ipureintro; exact hb4
  isplitl [F5_dst]
  · iexists _; isplitr; swap; · iexact F5_dst
    ipureintro; exact hb5
  isplitl [F6_dst]
  · iexists _; isplitr; swap; · iexact F6_dst
    ipureintro; exact hb6
  isplitl [P1]
  · iexists _; isplitr; swap; · iexact P1
    ipureintro
    rw [View.read_writes_whole]
    refine (slotRw_store t _ _).trans (congrArg flat2 ?_)
    simp only [load_rows harg1, load_wts harg2]
    rfl
  isplitl [P2]
  · iexists _; isplitr; swap; · iexact P2
    ipureintro
    rw [View.read_writes_whole]
    refine (slotSel_store t _ _).trans (congrArg flat2 ?_)
    simp only [load_rows harg1, load_wts harg2]
    rfl
  isplitl [P3]
  · iexists _; isplitr; swap; · iexact P3
    ipureintro
    rw [View.read_writes_whole]
    refine (slotLog_store t _ _).trans (congrArg flat16 ?_)
    simp only [load_rows harg1, load_wts harg2]
    rfl
  isplitl [F1 F1_src]
  · isplitl [F1]; · iexact F1
    iexists _; iexact F1_src
  isplitl [F2 F2_src]
  · isplitl [F2]; · iexact F2
    iexists _; iexact F2_src
  isplitl [F3 F3_src]
  · isplitl [F3]; · iexact F3
    iexists _; iexact F3_src
  isplitl [F4 F4_src]
  · isplitl [F4]; · iexact F4
    iexists _; iexact F4_src
  isplitl [F5 F5_src]
  · isplitl [F5]; · iexact F5
    iexists _; iexact F5_src
  isplitl [F6 F6_src]
  · isplitl [F6]; · iexact F6
    iexists _; iexact F6_src
  iexists _; iexact HW

end Cert.KernelIdeal.Hand

end
-- ==== Proof.KI.Body.lean ====
/- The pipeline's proof data — what each point finds and leaves — and the body at every point. -/
module

public import proofs.«01_k».proof.Proof.KI.Ring
public import proofs.«01_k».proof.Proof.KI.RunA
public import proofs.«01_k».proof.Proof.KI.RunB
public import proofs.«01_k».proof.Proof.KI.RunC
public import proofs.«01_k».proof.Proof.Gen.KernelIdeal.Frame
public import Idealize.ShloMosaic.Lib.Ring.WriteBehind
public import Idealize.ShloMosaic.Lib.Pipeline.FrameSuffixV

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation)

variable {F : FTy → Type} [FloatOps F]

local notation "𝕄" => MT nD τ sig Unit (Elt F) ℕ (Pipeline.UD sig nD τ) ℕ

variable (m : (ℓ : Loc nD τ sig) → Buf (Elt F) ℓ)

instance : NeZero grid0.N := ⟨by rw [N_0]; decide⟩

/-! ## The values, point by point -/

/-- Point `u` of the grid. -/
def pt (u : Fin 8) : Fin cfg0.N := ⟨u.val, lt_of_lt_of_eq u.isLt N_0.symm⟩
theorem pt_blk (t : Fin cfg0.N) : pt (blk t.val) = t := by
  have hN : t.val < 8 := lt_of_lt_of_eq t.isLt (show cfg0.N = 8 from N_0)
  exact Fin.ext (Ring.bk_val hN)
/-- The activations' and the weights' blocks there. -/
abbrev xAt (c : Dev nD) (u : Fin 8) : Vec F S1024x4096 .f32 := iblk m c 0 (pt u)
abbrev wAt (c : Dev nD) (u : Fin 8) : Vec F S4096x16 .f32 := iblk m c 1 (pt u)
/-- The three tiles point `u` computes. -/
def valRw (c : Dev nD) (u : Fin 8) : S1024x2.Idx → Elt F .f32 := outRw (xAt m c u) (wAt m c u)
def valSel (c : Dev nD) (u : Fin 8) : S1024x2.Idx → Elt F .i32 := outSel (xAt m c u) (wAt m c u)
def valLog (c : Dev nD) (u : Fin 8) : S1024x16.Idx → Elt F .f32 := outLog (xAt m c u) (wAt m c u)
/-- The accumulator after point `n`. -/
def accAt (c : Dev nD) : ℕ → Vec F S2x16 .f32
  | 0 => accStep (xAt m c (blk 0)) (wAt m c (blk 0)) k0_pay1
  | n + 1 => accStep (xAt m c (blk (n + 1))) (wAt m c (blk (n + 1))) (accAt c n)
theorem valRw_blk (c : Dev nD) (t : Fin cfg0.N) : valRw m c (blk t.val) = outRw (iblk m c 0 t) (iblk m c 1 t) := by
  unfold valRw xAt wAt; rw [pt_blk]
theorem valSel_blk (c : Dev nD) (t : Fin cfg0.N) : valSel m c (blk t.val) = outSel (iblk m c 0 t) (iblk m c 1 t) := by
  unfold valSel xAt wAt; rw [pt_blk]
theorem valLog_blk (c : Dev nD) (t : Fin cfg0.N) : valLog m c (blk t.val) = outLog (iblk m c 0 t) (iblk m c 1 t) := by
  unfold valLog xAt wAt; rw [pt_blk]
theorem accAt_zero (c : Dev nD) (t : Fin cfg0.N) (h : t.val = 0) : accAt m c t.val = accStep (iblk m c 0 t) (iblk m c 1 t) k0_pay1 := by
  have e := pt_blk t
  rw [h] at e ⊢
  rw [← e]; rfl
theorem accAt_pos (c : Dev nD) (t : Fin cfg0.N) (h : 0 < t.val) : accAt m c t.val = accStep (iblk m c 0 t) (iblk m c 1 t) (accAt m c (t.val - 1)) := by
  have e := pt_blk t
  obtain ⟨n, hn⟩ := Nat.exists_eq_succ_of_ne_zero h.ne'
  rw [hn] at e ⊢
  rw [← e]; rfl

/-! ## The proof data -/

/-- The accumulator before point `k`: at anything before the first, then at what the point before left. -/
def accBefore (c : Dev nD) : ℕ → sProp 𝕄
  | 0 => iprop(∃ d, owns (c : Thread nD τ) scAcc fullShare d)
  | k + 1 => owns (c : Thread nD τ) scAcc fullShare (accAt m c k)
/-- The ring before point `k`. -/
def ringAt (c : Dev nD) (k : ℕ) : sProp 𝕄 :=
  Ring.AtBΦ 2 (free (F := F) c) (infl c (valRw m c) (valSel m c) (valLog m c)) (ahead (F := F) c) (behind c (valRw m c) (valSel m c) (valLog m c)) k
/-- The region's invariant before point `k`. -/
def PhiR (c : Dev nD) (k : ℕ) : sProp 𝕄 := iprop(accBefore m c k ∗ ringAt m c k)

/-- The proof data: the arrays as the region finds them; each input's buffer left at its block, the scalar's at the
    product of the accumulator's rows; the invariant; nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => auxOf (accAt m c t.val)
  Φ t := PhiR m c t.val
  q _ := fullShare
  owed _ := 0

theorem A_eq (c : Dev nD) (w : Fin cfg0.W) : (dats m 0 c).A w = V m c (Pipeline.arrRef spec0 w) := by dsimp only [dats]
theorem Phi_castSucc (c : Dev nD) (t : Fin cfg0.N) : (dats m 0 c).Φ t.castSucc = PhiR m c t.val := by
  dsimp only [dats]; simp only [Fin.val_castSucc]
theorem Phi_succ (c : Dev nD) (t : Fin cfg0.N) : (dats m 0 c).Φ t.succ = PhiR m c (t.val + 1) := by
  dsimp only [dats]; simp only [Fin.val_succ]
theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_aux (c : Dev nD) (t : Fin cfg0.N) : (dats m 0 c).after 2 t = auxOf (accAt m c t.val) := by dsimp only [dats]
theorem before_x (c : Dev nD) (t : Fin cfg0.N) (d) : (dats m 0 c).before 0 t d = iblk m c 0 t :=
  ((dats m 0 c).before_in_eq_fetched 0 rfl (fun _ => rfl) (fun _ _ _ => rfl) (fun t => by rw [after_x]; unfold Dat.blockOf iblk; rw [A_eq]; try rfl) t d).trans
    (by unfold Dat.fetched Dat.blockOf iblk; rw [A_eq]; try rfl)
theorem before_w (c : Dev nD) (t : Fin cfg0.N) (d) : (dats m 0 c).before 1 t d = iblk m c 1 t :=
  ((dats m 0 c).before_in_eq_fetched 1 rfl (fun _ => rfl) (fun _ _ _ => rfl) (fun t => by rw [after_w]; unfold Dat.blockOf iblk; rw [A_eq]; try rfl) t d).trans
    (by unfold Dat.fetched Dat.blockOf iblk; rw [A_eq]; try rfl)

/-! ## The body at a point -/

abbrev stX (t : Fin cfg0.N) : Memref sig .tc .vmem S1024x4096 .f32 := win0_0.stage (cfg0.slots t 0)
abbrev stX_whole (t : Fin cfg0.N) : (stX t).IsWhole := hstage0_0 ((cfg0.slots t 0).cast nbuf0_0)
abbrev stW (t : Fin cfg0.N) : Memref sig .tc .vmem S4096x16 .f32 := win0_1.stage (cfg0.slots t 1)
abbrev stW_whole (t : Fin cfg0.N) : (stW t).IsWhole := hstage0_1 ((cfg0.slots t 1).cast nbuf0_1)
abbrev stAux (t : Fin cfg0.N) : Memref sig .tc .vmem S1x1 .f32 := win0_2.stage (cfg0.slots t 2)
abbrev stAux_whole (t : Fin cfg0.N) : (stAux t).IsWhole := hstage0_2 ((cfg0.slots t 2).cast nbuf0_2)

theorem idle_aux : ∀ t : Fin cfg0.N, ¬ k0_cond3 (grid0.coords t) = 1#1 → cfg0.idle 2 (grid0.coords t) = true := by decide +kernel
theorem noFlush_aux : ∀ t : Fin cfg0.N, ¬ k0_cond3 (grid0.coords t) = 1#1 → (cfg0.win 2).flush t = false := by decide +kernel
theorem live_aux : ∀ t : Fin cfg0.N, k0_cond3 (grid0.coords t) = 1#1 → cfg0.idle 2 (grid0.coords t) = false := by decide +kernel

/-- What the body is entered with at point `t`, -/
def bodyPre (c : Dev nD) (t : Fin cfg0.N) : sProp 𝕄 :=
  iprop((dats m 0 c).Φ t.castSucc ∗ (dats m 0 c).owesAt () t.castSucc
    ∗ (∃ d, owns (c : Thread nD τ) (stX t) fullShare ((dats m 0 c).before 0 t d))
    ∗ (∃ d, owns (c : Thread nD τ) (stW t) fullShare ((dats m 0 c).before 1 t d))
    ∗ (∃ d, owns (c : Thread nD τ) (stAux t) fullShare ((dats m 0 c).before 2 t d)))
/-- and what it leaves. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t)
theorem leaves_x (c : Dev nD) (t : Fin cfg0.N) : (dats m 0 c).leavesExact 0 t = owns (c : Thread nD τ) (stX t) fullShare (iblk m c 0 t) := by
  rw [show (dats m 0 c).leavesExact 0 t = owns (c : Thread nD τ) (stX t) fullShare ((dats m 0 c).after 0 t) from by
    unfold Dat.leavesExact; rw [show cfg0.idle 0 (grid0.coords t) = false from rfl], after_x]
theorem leaves_w (c : Dev nD) (t : Fin cfg0.N) : (dats m 0 c).leavesExact 1 t = owns (c : Thread nD τ) (stW t) fullShare (iblk m c 1 t) := by
  rw [show (dats m 0 c).leavesExact 1 t = owns (c : Thread nD τ) (stW t) fullShare ((dats m 0 c).after 1 t) from by
    unfold Dat.leavesExact; rw [show cfg0.idle 1 (grid0.coords t) = false from rfl], after_w]
theorem leaves_aux (c : Dev nD) (t : Fin cfg0.N) (he : k0_cond3 (grid0.coords t) = 1#1) :
    (dats m 0 c).leavesExact 2 t = owns (c : Thread nD τ) (stAux t) fullShare (auxOf (accAt m c t.val)) := by
  rw [show (dats m 0 c).leavesExact 2 t = owns (c : Thread nD τ) (stAux t) fullShare ((dats m 0 c).after 2 t) from by
    unfold Dat.leavesExact; rw [live_aux t he], after_aux]

set_option maxHeartbeats 1200000 in
/-- The body at the first point. -/
theorem body_first (c : Dev nD) (t : Fin cfg0.N) (h : t.val = 0) :
    bodyPre m c t ⊢ wp frame (wpE (defs₀ (F := F)) Variants.none c none) Set.univ (bodyAt0 t) (fun _ => bodyPost m c t) := by
  unfold bodyPre bodyPost bodyAt0
  simp only [before_x, before_w]
  rw [Phi_castSucc m c t, Phi_succ m c t, leaves_x, leaves_w]
  unfold Dat.owesAt Pipeline.owesWithin
  rw [show (dats m 0 c).owed t.castSucc = 0 from rfl, show (dats m 0 c).owed t.succ = 0 from rfl]
  have hN : t.val < 8 := lt_of_lt_of_eq t.isLt (show cfg0.N = 8 from N_0)
  have hd : ¬ k0_cond1 (grid0.coords t) = 1#1 := fun e => by have := (drains_iff t).mp e; omega
  have hz : clears (grid0.coords t) := (clears_iff t).mpr h
  have he : ¬ k0_cond3 (grid0.coords t) = 1#1 := fun e => by have := (ends_iff t).mp e; omega
  rw [Dat.leavesExact_idle (dats m 0 c) 2 t (idle_aux t he) (noFlush_aux t he)]
  unfold PhiR ringAt
  rw [Ring.AtBΦ_lt _ _ _ _ _ t.val (by omega), Ring.AtB2_zero' 2 _ _ _ _ t.val h, Ring.AtBΦ_lt _ _ _ _ _ (t.val + 1) (by omega), Ring.AtB22_next_zero' _ _ _ _ t.val h, show accBefore m c t.val = iprop(∃ d, owns (c : Thread nD τ) scAcc fullShare d) from by rw [h]; rfl]
  rw [show accBefore m c (t.val + 1) = owns (c : Thread nD τ) scAcc fullShare (accAt m c t.val) from rfl]
  unfold ahead infl
  try unfold free
  try unfold behind
  rw [valRw_blk, valSel_blk, valLog_blk, accAt_zero m c t h]
  iintro ⟨⟨HA, ⟨⟨P1, P2, P3⟩, HR⟩, ⟨T1, T2, T3⟩, HF⟩, ⟨%W, -, HW⟩, ⟨%d0, H0⟩, ⟨%d1, H1⟩, ⟨%d2, H2⟩⟩
  iapply (runFirst c t (stX t) (stX_whole t) (stW t) (stW_whole t) (stAux t) (stAux_whole t) hd hz he (iblk m c 0 t) (iblk m c 1 t) _ W _)
  isplitl [H0]; · iexact H0
  isplitl [H1]; · iexact H1
  isplitl [H2]; · iexact H2
  isplitl [HA]; · iexact HA
  isplitl [P1]; · iexact P1
  isplitl [P2]; · iexact P2
  isplitl [P3]; · iexact P3
  isplitl [T1]; · iexact T1
  isplitl [T2]; · iexact T2
  isplitl [T3]; · iexact T3
  isplitl [HW]; · iexact HW
  iintro ⟨H0, H1, H2, HA, N1, N2, N3, ⟨%W', HW'⟩⟩
  isplitl [HA HR HF N1 N2 N3]
  · isplitl [HA]
    · iexact HA
    isplitl [HR]
    · iexact HR
    isplitl [HF]
    · iexact HF
    isplitl [N1]
    · iexact N1
    isplitl [N2]
    · iexact N2
    iexact N3
  isplitl [HW']
  · iexists W'; isplitr; · ipureintro; exact fun _ _ => Or.inl trivial
    iexact HW'
  isplitl [H0]
  · iexact H0
  isplitl [H1]
  · iexact H1
  iexists _; iexact H2

set_option maxHeartbeats 1200000 in
/-- The body at the second point. -/
theorem body_second (c : Dev nD) (t : Fin cfg0.N) (h : t.val = 1) :
    bodyPre m c t ⊢ wp frame (wpE (defs₀ (F := F)) Variants.none c none) Set.univ (bodyAt0 t) (fun _ => bodyPost m c t) := by
  unfold bodyPre bodyPost bodyAt0
  simp only [before_x, before_w]
  rw [Phi_castSucc m c t, Phi_succ m c t, leaves_x, leaves_w]
  unfold Dat.owesAt Pipeline.owesWithin
  rw [show (dats m 0 c).owed t.castSucc = 0 from rfl, show (dats m 0 c).owed t.succ = 0 from rfl]
  have hN : t.val < 8 := lt_of_lt_of_eq t.isLt (show cfg0.N = 8 from N_0)
  have hd : ¬ k0_cond1 (grid0.coords t) = 1#1 := fun e => by have := (drains_iff t).mp e; omega
  have hz : ¬ clears (grid0.coords t) := fun e => by have := (clears_iff t).mp e; omega
  have he : ¬ k0_cond3 (grid0.coords t) = 1#1 := fun e => by have := (ends_iff t).mp e; omega
  have hacc : accBefore m c t.val = owns (c : Thread nD τ) scAcc fullShare (accAt m c (t.val - 1)) := by rw [h]; rfl
  rw [Dat.leavesExact_idle (dats m 0 c) 2 t (idle_aux t he) (noFlush_aux t he)]
  unfold PhiR ringAt
  rw [Ring.AtBΦ_lt _ _ _ _ _ t.val (by omega), Ring.AtB22_one' _ _ _ _ t.val h (by decide), Ring.AtBΦ_lt _ _ _ _ _ (t.val + 1) (by omega), Ring.AtB22_next_one' _ _ _ _ t.val h, hacc]
  rw [show accBefore m c (t.val + 1) = owns (c : Thread nD τ) scAcc fullShare (accAt m c t.val) from rfl]
  unfold ahead infl
  try unfold free
  try unfold behind
  rw [valRw_blk, valSel_blk, valLog_blk, accAt_pos m c t (by omega)]
  iintro ⟨⟨HA, ⟨⟨P1, P2, P3⟩, HR⟩, ⟨T1, T2, T3⟩, HC⟩, ⟨%W, -, HW⟩, ⟨%d0, H0⟩, ⟨%d1, H1⟩, ⟨%d2, H2⟩⟩
  iapply (runSecond c t (stX t) (stX_whole t) (stW t) (stW_whole t) (stAux t) (stAux_whole t) hd hz he (iblk m c 0 t) (iblk m c 1 t) _ _ W _)
  isplitl [H0]; · iexact H0
  isplitl [H1]; · iexact H1
  isplitl [H2]; · iexact H2
  isplitl [HA]; · iexact HA
  isplitl [P1]; · iexact P1
  isplitl [P2]; · iexact P2
  isplitl [P3]; · iexact P3
  isplitl [T1]; · iexact T1
  isplitl [T2]; · iexact T2
  isplitl [T3]; · iexact T3
  isplitl [HW]; · iexact HW
  iintro ⟨H0, H1, H2, HA, N1, N2, N3, ⟨%W', HW'⟩⟩
  isplitl [HA HR HC N1 N2 N3]
  · isplitl [HA]
    · iexact HA
    isplitl [HR]
    · iexact HR
    isplitl [HC]
    · iexact HC
    isplitl [N1]
    · iexact N1
    isplitl [N2]
    · iexact N2
    iexact N3
  isplitl [HW']
  · iexists W'; isplitr; · ipureintro; exact fun _ _ => Or.inl trivial
    iexact HW'
  isplitl [H0]
  · iexact H0
  isplitl [H1]
  · iexact H1
  iexists _; iexact H2

set_option maxHeartbeats 1200000 in
/-- The body at a point between. -/
theorem body_steady (c : Dev nD) (t : Fin cfg0.N) (h2 : 2 ≤ t.val) (h7 : t.val < 7) :
    bodyPre m c t ⊢ wp frame (wpE (defs₀ (F := F)) Variants.none c none) Set.univ (bodyAt0 t) (fun _ => bodyPost m c t) := by
  unfold bodyPre bodyPost bodyAt0
  simp only [before_x, before_w]
  rw [Phi_castSucc m c t, Phi_succ m c t, leaves_x, leaves_w]
  unfold Dat.owesAt Pipeline.owesWithin
  rw [show (dats m 0 c).owed t.castSucc = 0 from rfl, show (dats m 0 c).owed t.succ = 0 from rfl]
  have hN : t.val < 8 := lt_of_lt_of_eq t.isLt (show cfg0.N = 8 from N_0)
  have hd : k0_cond1 (grid0.coords t) = 1#1 := (drains_iff t).mpr h2
  have hz : ¬ clears (grid0.coords t) := fun e => by have := (clears_iff t).mp e; omega
  have he : ¬ k0_cond3 (grid0.coords t) = 1#1 := fun e => by have := (ends_iff t).mp e; omega
  have hacc : accBefore m c t.val = owns (c : Thread nD τ) scAcc fullShare (accAt m c (t.val - 1)) := by
    obtain ⟨n, hn⟩ := Nat.exists_eq_succ_of_ne_zero (show t.val ≠ 0 by omega)
    rw [hn]; rfl
  rw [Dat.leavesExact_idle (dats m 0 c) 2 t (idle_aux t he) (noFlush_aux t he)]
  unfold PhiR ringAt
  rw [Ring.AtBΦ_lt _ _ _ _ _ t.val (by omega), Ring.AtB22_here _ _ _ _ t.val h2 (by omega), Ring.AtBΦ_lt _ _ _ _ _ (t.val + 1) (by omega), Ring.AtB22_next _ _ _ _ t.val h2 (by omega), hacc]
  rw [show accBefore m c (t.val + 1) = owns (c : Thread nD τ) scAcc fullShare (accAt m c t.val) from rfl]
  unfold ahead infl
  try unfold free
  try unfold behind
  rw [valRw_blk, valSel_blk, valLog_blk, accAt_pos m c t (by omega)]
  iintro ⟨⟨HA, ⟨⟨P1, P2, P3⟩, HR⟩, HB, ⟨F1, F2, F3⟩, HC⟩, ⟨%W, -, HW⟩, ⟨%d0, H0⟩, ⟨%d1, H1⟩, ⟨%d2, H2⟩⟩
  iapply (runSteady c t (stX t) (stX_whole t) (stW t) (stW_whole t) (stAux t) (stAux_whole t) hd hz he (iblk m c 0 t) (iblk m c 1 t) _ _ _ _ _ W _)
  isplitl [H0]; · iexact H0
  isplitl [H1]; · iexact H1
  isplitl [H2]; · iexact H2
  isplitl [HA]; · iexact HA
  isplitl [P1]; · iexact P1
  isplitl [P2]; · iexact P2
  isplitl [P3]; · iexact P3
  isplitl [F1]; · iexact F1
  isplitl [F2]; · iexact F2
  isplitl [F3]; · iexact F3
  isplitl [HW]; · iexact HW
  iintro ⟨H0, H1, H2, HA, L1, L2, L3, N1, N2, N3, ⟨%W', HW'⟩⟩
  isplitl [HA HR L1 L2 L3 HB HC N1 N2 N3]
  · isplitl [HA]
    · iexact HA
    isplitl [HR]
    · iexact HR
    isplitl [L1 L2 L3 HB]
    · isplitl [L1 L2 L3]
      · isplitl [L1]
        · iexact L1
        isplitl [L2]
        · iexact L2
        iexact L3
      iexact HB
    isplitl [HC]
    · iexact HC
    isplitl [N1]
    · iexact N1
    isplitl [N2]
    · iexact N2
    iexact N3
  isplitl [HW']
  · iexists W'; isplitr; · ipureintro; exact fun _ _ => Or.inl trivial
    iexact HW'
  isplitl [H0]
  · iexact H0
  isplitl [H1]
  · iexact H1
  iexists _; iexact H2

set_option maxHeartbeats 1200000 in
/-- The body at the last point. -/
theorem body_last (c : Dev nD) (t : Fin cfg0.N) (h : t.val = 7) :
    bodyPre m c t ⊢ wp frame (wpE (defs₀ (F := F)) Variants.none c none) Set.univ (bodyAt0 t) (fun _ => bodyPost m c t) := by
  unfold bodyPre bodyPost bodyAt0
  simp only [before_x, before_w]
  rw [Phi_castSucc m c t, Phi_succ m c t, leaves_x, leaves_w]
  unfold Dat.owesAt Pipeline.owesWithin
  rw [show (dats m 0 c).owed t.castSucc = 0 from rfl, show (dats m 0 c).owed t.succ = 0 from rfl]
  have hN : t.val < 8 := lt_of_lt_of_eq t.isLt (show cfg0.N = 8 from N_0)
  have hd : k0_cond1 (grid0.coords t) = 1#1 := (drains_iff t).mpr (by omega)
  have hz : ¬ clears (grid0.coords t) := fun e => by have := (clears_iff t).mp e; omega
  have he : k0_cond3 (grid0.coords t) = 1#1 := (ends_iff t).mpr h
  have hacc : accBefore m c t.val = owns (c : Thread nD τ) scAcc fullShare (accAt m c (t.val - 1)) := by rw [h]; rfl
  rw [leaves_aux m c t he]
  unfold PhiR ringAt
  rw [Ring.AtBΦ_lt _ _ _ _ _ t.val (by omega), Ring.AtB22_here_last _ _ _ _ t.val (by omega) (by omega), Ring.AtBΦ_end _ _ _ _ _ (t.val + 1) (by omega), Ring.AtB22_drained _ _ t.val (by omega) (by omega), hacc]
  rw [show accBefore m c (t.val + 1) = owns (c : Thread nD τ) scAcc fullShare (accAt m c t.val) from rfl]
  unfold ahead infl
  try unfold free
  try unfold behind
  rw [valRw_blk, valSel_blk, valLog_blk, accAt_pos m c t (by omega)]
  iintro ⟨⟨HA, ⟨P1, P2, P3⟩, HB, ⟨F1, F2, F3⟩, G1, G2, G3⟩, ⟨%W, -, HW⟩, ⟨%d0, H0⟩, ⟨%d1, H1⟩, ⟨%d2, H2⟩⟩
  iapply (runLast c t (stX t) (stX_whole t) (stW t) (stW_whole t) (stAux t) (stAux_whole t) hd hz he (iblk m c 0 t) (iblk m c 1 t) _ _ _ _ _ _ _ W _)
  isplitl [H0]; · iexact H0
  isplitl [H1]; · iexact H1
  isplitl [H2]; · iexists _; iexact H2
  isplitl [HA]; · iexact HA
  isplitl [P1]; · iexact P1
  isplitl [P2]; · iexact P2
  isplitl [P3]; · iexact P3
  isplitl [F1]; · iexact F1
  isplitl [F2]; · iexact F2
  isplitl [F3]; · iexact F3
  isplitl [G1]; · iexact G1
  isplitl [G2]; · iexact G2
  isplitl [G3]; · iexact G3
  isplitl [HW]; · iexact HW
  iintro ⟨H0, H1, H2, HA, L1, L2, L3, M1, M2, M3, N1, N2, N3, S1, S2, S3, T1, T2, T3, ⟨%W', HW'⟩⟩
  isplitl [HA N1 N2 N3 L1 L2 L3 M1 M2 M3 HB S1 S2 S3 T1 T2 T3]
  · isplitl [HA]
    · iexact HA
    isplitl [N1 N2 N3 L1 L2 L3 M1 M2 M3 HB]
    · isplitl [N1 N2 N3]
      · isplitl [N1]
        · iexact N1
        isplitl [N2]
        · iexact N2
        iexact N3
      isplitl [L1 L2 L3]
      · isplitl [L1]
        · iexact L1
        isplitl [L2]
        · iexact L2
        iexact L3
      isplitl [M1 M2 M3]
      · isplitl [M1]
        · iexact M1
        isplitl [M2]
        · iexact M2
        iexact M3
      iexact HB
    isplitl [S1 S2 S3]
    · isplitl [S1]
      · iexact S1
      isplitl [S2]
      · iexact S2
      iexact S3
    isplitl [T1]
    · iexact T1
    isplitl [T2]
    · iexact T2
    iexact T3
  isplitl [HW']
  · iexists W'; isplitr; · ipureintro; exact fun _ _ => Or.inl trivial
    iexact HW'
  isplitl [H0]
  · iexact H0
  isplitl [H1]
  · iexact H1
  iexact H2

/-- The body at any point. -/
theorem body_any (c : Dev nD) (t : Fin cfg0.N) :
    bodyPre m c t ⊢ wp frame (wpE (defs₀ (F := F)) Variants.none c none) Set.univ (bodyAt0 t) (fun _ => bodyPost m c t) := by
  have hN : t.val < 8 := lt_of_lt_of_eq t.isLt (show cfg0.N = 8 from N_0)
  rcases (show t.val = 0 ∨ t.val = 1 ∨ (2 ≤ t.val ∧ t.val < 7) ∨ t.val = 7 by omega) with h | h | h | h
  · exact body_first m c t h
  · exact body_second m c t h
  · exact body_steady m c t h.1 h.2
  · exact body_last m c t h

theorem body_row (t : Fin cfg0.N) : defs₀ (F := F) .tc cfg0.body (cfg0.bodyArgs t (cfg0.slots t)) = bodyAt0 t := by
  unfold defs₀; rw [Defs.onTc_tc]

/-- The obligation the launch asks of the body. -/
theorem body_obligation (c : Dev nD) : BodyObligation (dats (F := F) m 0 c) (defs₀ (F := F)) Variants.none () Set.univ := fun t => by
  rw [bigSep_W0, bigSep_W0, body_row]
  exact triple_restated (body_any m c t) rfl .rfl fun _ => .rfl

end Cert.KernelIdeal.Hand

end
-- ==== Proof.KI.Run.lean ====
/- The run of the whole program: what every result holds at the end, the arguments and the counters as they were. -/
module

public import proofs.«01_k».proof.Proof.KI.Body
public import Idealize.ShloMosaic.Lib.Pipeline.ValueKit

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The kernel's own semaphores and the results it copies out -/

/-- The six cells of the copies out. -/
abbrev ownSem : Fin 6 → SemLoc sig := fun j => (![SemLoc.dma 4, SemLoc.dma 5, SemLoc.dma 6, SemLoc.dma 7, SemLoc.dma 8, SemLoc.dma 9] : Fin 6 → SemLoc sig) j
theorem ownSem_facts : Pipeline.OwnSemFacts spec0 ownSem := by decide
theorem ownSem_listed (c : Dev nD) :
    (Pipeline.ownSems0 (Ix := Unit) (Name := ℕ) (U := Pipeline.UD sig nD τ) (Lvl := ℕ) (Val := Elt F) (τ := τ) ownSem c : sProp 𝕄)
      = iprop(semVal ((c : Thread nD τ), SemLoc.dma 4) 0 ∗ semVal ((c : Thread nD τ), SemLoc.dma 5) 0 ∗ semVal ((c : Thread nD τ), SemLoc.dma 6) 0
        ∗ semVal ((c : Thread nD τ), SemLoc.dma 7) 0 ∗ semVal ((c : Thread nD τ), SemLoc.dma 8) 0 ∗ semVal ((c : Thread nD τ), SemLoc.dma 9) 0) := by
  rw [Pipeline.ownSems0_eq_of_list c ownSem [0, 1, 2, 3, 4, 5] (by decide) (by decide)]; rfl
/-- Nothing left in place is only read, -/
def readOnly : Finset (Ref sig .tc) := {}
theorem readOnly_sub : readOnly ⊆ Pipeline.restRefs sig spec0 := by decide
/-- and three results are copied out to. -/
def copied : Finset (Ref sig .tc) := {main_v1_0, main_v1_1, main_v1_2}
theorem copied_sub : copied ⊆ Pipeline.restRefs sig spec0 \ readOnly := by decide

/-- What the copies leave: each result gathered from its points' tiles. -/
def left (c : Dev nD) : (b : Ref sig .tc) → Buf (Elt F) ((c : Thread nD τ).loc b) :=
  Function.update (Function.update (Function.update (V m c) main_v1_0 (gather2 (valRw m c))) main_v1_1 (gather2 (valSel m c))) main_v1_2 (gather16 (valLog m c))
theorem left_rw (c : Dev nD) : left m c main_v1_0 = gather2 (valRw m c) := by
  unfold left
  rw [Function.update_of_ne (show main_v1_0 ≠ main_v1_2 by decide), Function.update_of_ne (show main_v1_0 ≠ main_v1_1 by decide), Function.update_self]
theorem left_sel (c : Dev nD) : left m c main_v1_1 = gather2 (valSel m c) := by
  unfold left
  rw [Function.update_of_ne (show main_v1_1 ≠ main_v1_2 by decide), Function.update_self]
theorem left_log (c : Dev nD) : left m c main_v1_2 = gather16 (valLog m c) := by
  unfold left; rw [Function.update_self]
theorem copied_listed (c : Dev nD) (G : (b : Ref sig .tc) → Buf (Elt F) ((c : Thread nD τ).loc b)) :
    (bigSep copied (fun b => ((c : Thread nD τ).loc b) ↦{fullShare} G b) : sProp 𝕄)
      = iprop((((c : Thread nD τ).loc main_v1_0) ↦{fullShare} G main_v1_0) ∗ (((c : Thread nD τ).loc main_v1_1) ↦{fullShare} G main_v1_1)
        ∗ (((c : Thread nD τ).loc main_v1_2) ↦{fullShare} G main_v1_2)) := by
  rw [BI.bigSep_eq_bigSepL_of_eq [main_v1_0, main_v1_1, main_v1_2] (by decide) (by decide)]; rfl
theorem readOnly_listed (c : Dev nD) (G : (b : Ref sig .tc) → Buf (Elt F) ((c : Thread nD τ).loc b)) :
    (bigSep readOnly (fun b => ((c : Thread nD τ).loc b) ↦{fullShare} G b) : sProp 𝕄) = iprop(emp) := by
  rw [BI.bigSep_eq_bigSepL_of_eq [] (by decide) (by decide)]; rfl

/-- The launch hands the region its invariant before the first point, -/
theorem region_in (c : Dev nD) : Pipeline.ΦDRV ownSem spec0 readOnly copied (V m) (V m) c ⊢ (dats m 0 c).Φ 0 := by
  rw [show (dats m 0 c).Φ 0 = PhiR m c 0 from rfl]
  unfold Pipeline.ΦDRV PhiR ringAt
  rw [scopedRest0_eq, ownSem_listed, readOnly_listed, copied_listed, Ring.AtBΦ_lt _ _ _ _ _ 0 (by omega), Ring.AtB_zero]
  rw [show accBefore m c 0 = iprop(∃ d, owns (c : Thread nD τ) scAcc fullShare d) from rfl]
  unfold Ring.AtB₀
  simp only [scAcc, owns_whole]
  iintro ⟨⟨HA, S1, S2, S3⟩, ⟨C1, C2, C3, C4, C5, C6⟩, -, R1, R2, R3⟩
  isplitl [HA]; · iexact HA
  iapply (ring_in (F := F) c (V m c main_v1_0) (V m c main_v1_1) (V m c main_v1_2))
  isplitl [S1]; · iexact S1
  isplitl [S2]; · iexact S2
  isplitl [S3]; · iexact S3
  isplitl [C1 C2]
  · isplitl [C1]; · iexact C1
    iexact C2
  isplitl [C3 C4]
  · isplitl [C3]; · iexact C3
    iexact C4
  isplitl [C5 C6]
  · isplitl [C5]; · iexact C5
    iexact C6
  isplitl [R1]; · iexact R1
  isplitl [R2]; · iexact R2
  iexact R3
/-- and takes back what the invariant holds after the last. -/
theorem region_out (c : Dev nD) : (dats m 0 c).Φ (Fin.last cfg0.N) ⊢ Pipeline.ΦDRV ownSem spec0 readOnly copied (V m) (left m) c := by
  rw [show (dats m 0 c).Φ (Fin.last cfg0.N) = PhiR m c grid0.N from rfl, show grid0.N = 8 by rw [N_0]]
  unfold Pipeline.ΦDRV PhiR ringAt
  rw [scopedRest0_eq, ownSem_listed, readOnly_listed, copied_listed, Ring.AtBΦ_end _ _ _ _ _ 8 rfl, left_rw, left_sel, left_log]
  rw [show accBefore m c 8 = owns (c : Thread nD τ) scAcc fullShare (accAt m c 7) from rfl]
  unfold Ring.AtBEnd
  simp only [scAcc, owns_whole]
  iintro ⟨HA, HR⟩
  ihave HX := (ring_out (F := F) c (valRw m c) (valSel m c) (valLog m c)) $$ HR
  icases HX with ⟨S1, S2, S3, ⟨C1, C2⟩, ⟨C3, C4⟩, ⟨C5, C6⟩, R1, R2, R3⟩
  isplitl [HA S1 S2 S3]
  · isplitl [HA]; · iexists _; iexact HA
    isplitl [S1]; · iexact S1
    isplitl [S2]; · iexact S2
    iexact S3
  isplitl [C1 C2 C3 C4 C5 C6]
  · isplitl [C1]; · iexact C1
    isplitl [C2]; · iexact C2
    isplitl [C3]; · iexact C3
    isplitl [C4]; · iexact C4
    isplitl [C5]; · iexact C5
    iexact C6
  isplitr; · iempintro
  isplitl [R1]; · iexact R1
  isplitl [R2]; · iexact R2
  iexact R3

/-! ## The run -/

theorem main_around : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

/-- What a buffer that is no window's array holds when the lines after the region have run. -/
abbrev atEnd (c : Dev nD) (b : Ref sig .tc) : Buf (Elt F) ((c : Thread nD τ).loc b) :=
  StableHlo.after (List.flatten [hostOps1]) (Pipeline.withArrays spec0 c (Pipeline.withR (V0 m c) copied c (left m c)) fun w => (dats m 0 c).arrAt w cfg0.N) (Proc.devRef .tc b)

set_option backward.isDefEq.respectTransparency.types false in
set_option maxHeartbeats 800000 in
/-- Every execution ends with each window's array at what the proof data gives it, every other buffer at `atEnd`, the
    counters at zero. -/
theorem run_raw : θ_run defs (onTc (τ := τ) (main (F := F))) (s₀ m ρ) (fun r =>
    (∀ c : Dev nD, (∀ w, r.2.mem ((spec0 w).arr.view.loc (c : Thread nD τ)) = (dats m 0 c).arrAt w cfg0.N)
      ∧ ∀ b ∈ Pipeline.restRefs sig spec0, r.2.mem ((c : Thread nD τ).loc b) = atEnd m c b) ∧ r.2.sem = fun _ => 0) :=
  Pipeline.θ_run_frame_dmaR_aroundV cfgs (dats m) (0 : Fin 1) launch0 ownSem defs₀ Variants.none ownSem_facts readOnly copied readOnly_sub copied_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (G := left m) (hmain := main_around m) (hA := A_eq m) (hin := region_in m) (hout := region_out m)
    (Q' := _) (hQ' := fun _ h => h)

/-- A buffer the last line does not write ends as the region left it. -/
theorem atEnd_keeps (c : Dev nD) (b : Ref sig .tc) (h : b ≠ main_v2) (ha : ∀ w, Pipeline.arrRef spec0 w ≠ b) :
    atEnd m c b = Pipeline.withR (V0 m c) copied c (left m c) (Proc.devRef .tc b) := by
  unfold atEnd
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne h)),
    Pipeline.withArrays_of_ne _ c _ _ b ha]
theorem atEnd_rw (c : Dev nD) : atEnd m c main_v1_0 = gather2 (valRw m c) := by
  rw [atEnd_keeps m c main_v1_0 (by decide) (by decide), Pipeline.withR_of_mem _ _ _ _ _ (by decide), left_rw]
theorem atEnd_sel (c : Dev nD) : atEnd m c main_v1_1 = gather2 (valSel m c) := by
  rw [atEnd_keeps m c main_v1_1 (by decide) (by decide), Pipeline.withR_of_mem _ _ _ _ _ (by decide), left_sel]
theorem atEnd_log (c : Dev nD) : atEnd m c main_v1_2 = gather16 (valLog m c) := by
  rw [atEnd_keeps m c main_v1_2 (by decide) (by decide), Pipeline.withR_of_mem _ _ _ _ _ (by decide), left_log]
theorem atEnd_arg1 (c : Dev nD) : atEnd m c main_arg1 = m ((c : Thread nD τ).loc main_arg1) := by
  rw [atEnd_keeps m c main_arg1 (by decide) (by decide), Pipeline.withR_of_not_mem _ _ _ _ _ (by decide)]
  exact V_main_arg1 m c
/-- The scalar's array holds what the last point left. -/
theorem aux_array (c : Dev nD) : (dats m 0 c).arrAt 2 cfg0.N = auxOf (accAt m c 7) := by
  refine (dats m 0 c).arrAt_eq_of_after_last 2 t0_7 (by decide +kernel) _ fun j => ?_
  blk_simp
  rw [after_aux]
  rfl
/-- The last line makes the scalar of it. -/
theorem atEnd_aux (c : Dev nD) : atEnd m c main_v2 = shapeCast S_ (auxOf (accAt m c 7)) shapeCasts_S1x1_S_ := by
  unfold atEnd
  simp only [hostOps1, List.flatten_cons, List.flatten_nil, List.append_nil, List.cons_append, List.nil_append, StableHlo.after_cons, StableHlo.after_nil]
  rw [StableHlo.reshape_result]
  have e : Pipeline.withArrays spec0 c (Pipeline.withR (V0 m c) copied c (left m c)) (fun w => (dats m 0 c).arrAt w cfg0.N) (Proc.devRef .tc main_v1_3)
      = (dats m 0 c).arrAt 2 cfg0.N := Pipeline.withArrays_arr spec0 launch0.win.arr_inj c _ _ 2
  rw [e, aux_array]; rfl

/-- The run: the three results gathered, the scalar, the arguments as launched, the counters at zero. -/
theorem run : θ_run defs (onTc (τ := τ) (main (F := F))) ⟨m, fun _ => 0, ρ⟩ (fun r => (∀ c : Dev nD,
      r.2.mem ((c.tc : Thread nD τ).loc main_v1_0) = gather2 (valRw m c)
      ∧ r.2.mem ((c.tc : Thread nD τ).loc main_v1_1) = gather2 (valSel m c)
      ∧ r.2.mem ((c.tc : Thread nD τ).loc main_v1_2) = gather16 (valLog m c)
      ∧ r.2.mem ((c.tc : Thread nD τ).loc main_v2) = shapeCast S_ (auxOf (accAt m c 7)) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨((h.1 c).2 main_v1_0 (by decide)).trans (atEnd_rw m c),
    ((h.1 c).2 main_v1_1 (by decide)).trans (atEnd_sel m c), ((h.1 c).2 main_v1_2 (by decide)).trans (atEnd_log m c),
    ((h.1 c).2 main_v2 (by decide)).trans (atEnd_aux m c),
    ((h.1 c).1 0).trans (((dats m 0 c).arrAt_in 0 rfl _).trans ((A_eq m c 0).trans (V_main_arg0 m c))),
    ((h.1 c).2 main_arg1 (by decide)).trans (atEnd_arg1 m c)⟩, h.2⟩) (run_raw m ρ)

end Cert.KernelIdeal.Hand

end
-- ==== Proof.V.Ref.lean ====
/- What the reference computes, as named values: the logits, the softmax of each row, the two greatest of each row, their
   normalised weights and the auxiliary loss. -/
module

public import proofs.«01_k».proof.Proof.Gen.ReferenceIdeal.Run
public import Idealize.ShloMosaic.PureOps.Ideal

@[expose] public section

set_option maxRecDepth 16384

noncomputable section

namespace Cert.ReferenceIdeal.Hand

open Idealize.ShloMosaic Idealize.ShloMosaic.TcCoe Idealize.SL.Sem
open Cert.ReferenceIdeal Cert.ReferenceIdeal.Gen

/-- The logits of the rows `X` under the experts `W`. -/
def logits (X : FVec Ideal S8192x4096 .f32) (W : FVec Ideal S16x4096 .f32) : FVec Ideal S8192x16 .f32 :=
  Host.dotGeneral dot_S8192x4096_S4096x16_S8192x16_1_0_0_1_n_n none X (transpose S4096x16 [1, 0] W transposes_S16x4096_S4096x16_1_0)
/-- One number per row, under each expert. -/
def spread (v : FVec Ideal S8192 .f32) : FVec Ideal S8192x16 .f32 :=
  broadcastInDim S8192x16 ![0, 1] bcast_S8192x1_S8192x16_0_1 (broadcastInDim S8192x1 ![0] bcast_S8192_S8192x1_0 v)
/-- The greatest logit of each row. -/
def peak (L : FVec Ideal S8192x16 .f32) : FVec Ideal S8192 .f32 :=
  maximumf (broadcastInDim S8192 ![] bcast_S_S8192 (constant S_ .f32 0xFF800000#32))
    (Host.reduce FloatOps.maximumf L (constant S_ .f32 0xFF800000#32) reducesTo_S8192x16_S8192_d1 h_S_)
/-- The exponentials of the logits less the row's greatest. -/
def lifted (L : FVec Ideal S8192x16 .f32) : FVec Ideal S8192x16 .f32 := Host.exp (subf L (spread (peak L)))
/-- The softmax of each row. -/
def prob (L : FVec Ideal S8192x16 .f32) : FVec Ideal S8192x16 .f32 :=
  Host.divf (lifted L) (spread (Host.reduceAdd (lifted L) (constant S_ .f32 0x00000000#32) reducesTo_S8192x16_S8192_d1 h_S_))
/-- The two greatest entries of each row, with their places. -/
def ranked (P : FVec Ideal S8192x16 .f32) : FVec Ideal S8192x2 .f32 × IVec S8192x2 32 :=
  Host.topK S8192x2 1 (FloatOps.cmpfTotal .gt) P sliceFits_S8192x16_S8192x2
/-- A pair per row divided by its sum. -/
def normal (v : FVec Ideal S8192x2 .f32) : FVec Ideal S8192x2 .f32 :=
  Host.divf v (broadcastInDim S8192x2 ![0, 1] bcast_S8192x1_S8192x2_0_1 (broadcastInDim S8192x1 ![0] bcast_S8192_S8192x1_0
    (Host.reduceAdd v (constant S_ .f32 0x00000000#32) reducesTo_S8192x2_S8192_d1 h_S_)))
/-- One where the row's first choice is the expert, zero elsewhere. -/
def mask (s : IVec S8192x2 32) : FVec Ideal S8192x16 .f32 :=
  uitofp .f32 (cmpi .eq (broadcastInDim S8192x16 ![0, 1] bcast_S8192x1_S8192x16_0_1 (broadcastInDim S8192x1 ![0] bcast_S8192_S8192x1_0
    (shapeCast _ (extractStridedSlice S8192x1 ![0, 0] s slices_S8192x2_S8192x1_0_0) shapeCasts_S8192x1_S8192)))
    (broadcastInDim S8192x16 ![0, 1] bcast_S1x16_S8192x16_0_1 (iotaInDim S1x16 32 1)))
/-- The mean over the rows, for each expert. -/
def mean (v : FVec Ideal S8192x16 .f32) : FVec Ideal S16 .f32 :=
  Host.divf (Host.reduceAdd v (constant S_ .f32 0x00000000#32) reducesTo_S8192x16_S16_d0 h_S_)
    (broadcastInDim S16 ![] bcast_S_S16 (constant S_ .f32 0x46000000#32))
/-- The auxiliary loss of the choices `s` and the softmax `P`. -/
def loss (s : IVec S8192x2 32) (P : FVec Ideal S8192x16 .f32) : FVec Ideal S_ .f32 :=
  mulf (constant S_ .f32 0x3E23D70A#32) (Host.reduceAdd (mulf (mean (mask s)) (mean P)) (constant S_ .f32 0x00000000#32) reducesTo_S16_S_d0 h_S_)

set_option maxHeartbeats 1000000 in
/-- The reference runs, and its results are these values of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16) = normal (ranked (prob (logits (m (c.tc.loc main_arg0)) (m (c.tc.loc main_arg1))))).1
      ∧ r.2.mem ((c.tc : Thread nD τ).loc main_indices) = (ranked (prob (logits (m (c.tc.loc main_arg0)) (m (c.tc.loc main_arg1))))).2
      ∧ r.2.mem ((c.tc : Thread nD τ).loc main_v1) = logits (m (c.tc.loc main_arg0)) (m (c.tc.loc main_arg1))
      ∧ r.2.mem ((c.tc : Thread nD τ).loc main_v28) = loss (ranked (prob (logits (m (c.tc.loc main_arg0)) (m (c.tc.loc main_arg1))))).2
          (prob (logits (m (c.tc.loc main_arg0)) (m (c.tc.loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun _ h c => ⟨(h c).1, (h c).2.1, (h c).2.2.1, (h c).2.2.2.1, (h c).2.2.2.2⟩) (Cert.ReferenceIdeal.Value.run m ρ)

end Cert.ReferenceIdeal.Hand

end
-- ==== Proof.V.Choice.lean ====
/- The first and the second choice among sixteen numbers: the greatest and the greatest of the others, the lower place
   winning a tie. A stable descending sort puts them first, and a least-place-of-the-greatest search finds them. -/
module

public import Idealize.ShloMosaic.Lib.SortPrefix
public import Idealize.ShloMosaic.Lib.SortFacts
public import Idealize.ShloMosaic.PureOps.Ideal
public import Idealize.ShloMosaic.PureOps.Ideal.Laws

@[expose] public section

set_option maxRecDepth 16384

noncomputable section

namespace Cert.Router

open Idealize.ShloMosaic

/-- Among the places with a property the first of those with the greatest number. -/
theorem exists_best (a : Fin 16 → ℝ) (q : Fin 16 → Prop) (hq : ∃ x, q x) :
    ∃ i, q i ∧ (∀ b, q b → a b ≤ a i) ∧ ∀ b, q b → b < i → a b < a i := by
  classical
  obtain ⟨x, hx⟩ := hq
  obtain ⟨t, ht, hmax⟩ := (Finset.univ.filter q).exists_max_image a ⟨x, by simp [hx]⟩
  obtain ⟨i, hi, hmin⟩ := (Finset.univ.filter fun b => q b ∧ a b = a t).exists_min_image id ⟨t, by simpa using ht⟩
  simp only [Finset.mem_filter, Finset.mem_univ, true_and, id] at hmax hi hmin
  refine ⟨i, hi.1, fun b hb => by rw [hi.2]; exact hmax b hb, fun b hb hlt => ?_⟩
  refine lt_of_le_of_ne (by rw [hi.2]; exact hmax b hb) fun he => ?_
  exact absurd (hmin b ⟨hb, he.trans hi.2⟩) (not_le.mpr hlt)

/-- `i` is the first choice and `j` the second. -/
structure Pair (a : Fin 16 → ℝ) (i j : Fin 16) : Prop where
  ne : j ≠ i
  top : ∀ b, a b ≤ a i
  topLow : ∀ b, b < i → a b < a i
  next : ∀ b, b ≠ i → a b ≤ a j
  nextLow : ∀ b, b ≠ i → b < j → a b < a j

/-- The first choice. -/
def one (a : Fin 16 → ℝ) : Fin 16 := (exists_best a (fun _ => True) ⟨0, trivial⟩).choose
theorem exists_other (i : Fin 16) : ∃ x : Fin 16, x ≠ i := by
  rcases eq_or_ne i 0 with h | h
  · exact ⟨1, by rw [h]; decide⟩
  · exact ⟨0, h.symm⟩
/-- The second choice. -/
def two (a : Fin 16 → ℝ) : Fin 16 := (exists_best a (· ≠ one a) (exists_other _)).choose
theorem pair (a : Fin 16 → ℝ) : Pair a (one a) (two a) :=
  have h := (exists_best a (fun _ => True) ⟨0, trivial⟩).choose_spec
  have k := (exists_best a (· ≠ one a) (exists_other _)).choose_spec
  ⟨k.1, fun b => h.2.1 b trivial, fun b => h.2.2 b trivial, k.2.1, k.2.2⟩

/-! ## A stable sort -/

/-- A stable sort does not see the order it would give to an element and an earlier one. -/
theorem stableSort_forward {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- Two orders that put the places alike draw each place alike. -/
theorem sortedFrom_of_positions {n : Nat} (B B' : Fin n → Fin n → Bool) (h : sortPositions n B = sortPositions n B') (k : Fin n) :
    sortedFrom B k = sortedFrom B' k := by
  unfold sortedFrom
  exact List.get_of_eq h _

open Classical in
/-- Greater first, and equal ones by their place. -/
def ahead (a : Fin 16 → ℝ) (k k' : Fin 16) : Bool := decide (a k' < a k) || (decide (a k = a k') && decide (k < k'))

theorem ahead_total (a : Fin 16 → ℝ) : StrictTotalBefore (ahead a) := by
  classical
  have h := StrictTotalBefore.of_key_then_position (fun x y : ℝ => decide (y < x)) a (by simp)
    (fun x y z hxy hyz => by simp only [decide_eq_true_eq] at *; exact hyz.trans hxy)
    (fun x y => by simp only [decide_eq_true_eq]; rcases lt_trichotomy x y with h | h | h <;> simp [h])
  convert h using 3
  unfold ahead
  congr!

/-- The first two of the sixteen in descending order, by any numbers that order as `a` does. -/
theorem sorted_two (a : Fin 16 → ℝ) (p : Fin 16 → EReal) (hp : ∀ b c, p b < p c ↔ a b < a c) (k : Fin 2) (h : k.val < 16) :
    sortedFrom (fun x y => FloatOps.cmpfTotal (F := Ideal) (φ := .f32) CmpDirection.gt (p x) (p y) == 1#1) ⟨k.val, h⟩
      = if k.val < 1 then one a else two a := by
  classical
  have hpr := pair a
  have hs : sortPositions 16 (fun x y => FloatOps.cmpfTotal (F := Ideal) (φ := .f32) CmpDirection.gt (p x) (p y) == 1#1) = sortPositions 16 (ahead a) := by
    refine stableSort_forward _ _ _ ((List.pairwise_lt_finRange 16).imp fun {x y} hxy => ?_)
    have hyx : ¬ y < x := hxy.asymm
    simp only [Ideal.cmpfTotal_def, Ideal.cmp, CmpDirection.ordered, ahead, hyx, decide_false, Bool.and_false, Bool.or_false]
    by_cases hlt : a x < a y <;> simp [hlt, hp]
  have hf : sortedFrom (fun x y => FloatOps.cmpfTotal (F := Ideal) (φ := .f32) CmpDirection.gt (p x) (p y) == 1#1) ⟨k.val, h⟩
      = sortedFrom (ahead a) ⟨k.val, h⟩ := sortedFrom_of_positions _ _ hs _
  rw [hf]
  have hσ := (ahead_total a).sortedFrom_eq_of_prefix (k := 2) (by omega) (fun i => if i.val < 1 then one a else two a) ?_ ?_ ?_ k
  · exact hσ
  · intro i j hij
    have := hpr.ne
    rcases i with ⟨i, hi⟩; rcases j with ⟨j, hj⟩
    interval_cases i <;> interval_cases j <;> simp_all [eq_comm]
  · intro i j hij
    rcases i with ⟨i, hi⟩; rcases j with ⟨j, hj⟩
    have hi0 : i = 0 := by have := Fin.lt_def.mp hij; simp at this; omega
    have hj1 : j = 1 := by have := Fin.lt_def.mp hij; simp at this; omega
    subst hi0 hj1
    simp only [ahead, Nat.lt_irrefl, if_false, zero_lt_one, if_true]
    have h1 := hpr.top (two a)
    simp only [Bool.or_eq_false_iff, Bool.and_eq_false_iff, decide_eq_false_iff_not, not_lt]
    refine ⟨h1, ?_⟩
    by_cases he : a (two a) = a (one a)
    · exact Or.inr (not_lt.mp fun hlt => absurd he (ne_of_lt (hpr.topLow _ hlt)))
    · exact Or.inl he
  · intro i b hb
    have hb1 : b ≠ one a := fun e => hb 0 (by simp [e])
    have hb2 : b ≠ two a := fun e => hb 1 (by simp [e])
    rcases i with ⟨i, hi⟩
    simp only [ahead, Bool.or_eq_false_iff, Bool.and_eq_false_iff, decide_eq_false_iff_not, not_lt]
    interval_cases i
    · simp only [zero_lt_one, if_true]
      refine ⟨hpr.top b, ?_⟩
      by_cases he : a b = a (one a)
      · exact Or.inr (not_lt.mp fun hlt => absurd he (ne_of_lt (hpr.topLow _ hlt)))
      · exact Or.inl he
    · simp only [Nat.lt_irrefl, if_false]
      refine ⟨hpr.next b hb1, ?_⟩
      by_cases he : a b = a (two a)
      · exact Or.inr (not_lt.mp fun hlt => absurd he (ne_of_lt (hpr.nextLow _ hb1 hlt)))
      · exact Or.inl he

/-! ## A search for the greatest, and for its least place -/

theorem fold_greatest (f : Fin 16 → EReal) (i : Fin 16) (h : ∀ b, f b ≤ f i) : Finset.fold max ⊥ f Finset.univ = f i := by
  refine le_antisymm ?_ ?_
  · exact Finset.fold_max_le _ |>.mpr ⟨bot_le, fun b _ => h b⟩
  · exact Finset.le_fold_max _ |>.mpr (Or.inr ⟨i, Finset.mem_univ i, le_rfl⟩)

theorem place_toInt : ∀ x : Fin 16, (BitVec.ofNat 32 x.val).toInt = x.val := by decide
theorem toInt_minsi (x y : BitVec 32) : (IntOp.minsi x y).toInt = min x.toInt y.toInt := by
  unfold IntOp.minsi
  by_cases h : x.toInt < y.toInt
  · rw [if_pos (by simpa [BitVec.slt] using h), min_eq_left h.le]
  · rw [if_neg (by simpa [BitVec.slt] using h), min_eq_right (not_lt.mp h)]

theorem fold_least (q : Fin 16 → Prop) [DecidablePred q] (i : Fin 16) (hi : q i) (hlow : ∀ b, q b → i ≤ b) :
    Finset.fold IntOp.minsi (2147483647#32) (fun x => if q x then BitVec.ofNat 32 x.val else 16#32) Finset.univ
      = BitVec.ofNat 32 i.val := by
  refine BitVec.eq_of_toInt_eq ?_
  rw [← Finset.fold_hom (op' := min) (m := BitVec.toInt) toInt_minsi, place_toInt]
  refine le_antisymm ?_ ?_
  · exact Finset.fold_min_le _ |>.mpr (Or.inr ⟨i, Finset.mem_univ i, by rw [if_pos hi, place_toInt]⟩)
  · refine Finset.le_fold_min _ |>.mpr ⟨?_, fun b _ => ?_⟩
    · have := i.isLt
      have h : (2147483647#32 : BitVec 32).toInt = 2147483647 := by decide
      rw [h]; omega
    · by_cases hb : q b
      · rw [if_pos hb, place_toInt]; exact_mod_cast hlow b hb
      · rw [if_neg hb]
        have h : (16#32 : BitVec 32).toInt = 16 := by decide
        have := i.isLt
        rw [h]; omega

/-- A place is told from another by its word. -/
theorem place_eq (x y : Fin 16) : (IntOp.cmpi .eq (BitVec.ofNat 32 x.val) (BitVec.ofNat 32 y.val)) = BitVec.ofBool (decide (x = y)) := by
  revert x y; decide

end Cert.Router

end
-- ==== Proof.V.Row.lean ====
/- The softmax of one row of sixteen real logits, and sums that pick one place or count. -/
module

public import proofs.«01_k».proof.Proof.V.Choice

@[expose] public section

set_option maxRecDepth 16384

noncomputable section

namespace Cert.Router

open Idealize.ShloMosaic

/-- A sum of reals read as extended reals. -/
theorem coe_sum {ι : Type} (s : Finset ι) (f : ι → ℝ) : (∑ x ∈ s, ((f x : ℝ) : EReal)) = ((∑ x ∈ s, f x : ℝ) : EReal) := by
  classical
  induction s using Finset.induction_on with
  | empty => simp
  | insert x s hx ih => rw [Finset.sum_insert hx, Finset.sum_insert hx, ih, EReal.coe_add]

theorem coe_div (x y : ℝ) (h : y ≠ 0) : Ideal.div (x : EReal) (y : EReal) = ((x / y : ℝ) : EReal) := by
  rw [Ideal.div_coe h, ← EReal.coe_mul, mul_one_div]

/-- The row's normaliser. -/
def total (a : Fin 16 → ℝ) : ℝ := ∑ x, Real.exp (a x - a (one a))
theorem total_pos (a : Fin 16 → ℝ) : 0 < total a := Finset.sum_pos (fun _ _ => Real.exp_pos _) ⟨0, Finset.mem_univ _⟩
/-- The softmax. -/
def soft (a : Fin 16 → ℝ) (e : Fin 16) : ℝ := Real.exp (a e - a (one a)) / total a

theorem soft_lt (a : Fin 16 → ℝ) (b c : Fin 16) : ((soft a b : ℝ) : EReal) < ((soft a c : ℝ) : EReal) ↔ a b < a c := by
  rw [EReal.coe_lt_coe_iff, soft, soft, div_lt_div_iff_of_pos_right (total_pos a), Real.exp_lt_exp]
  constructor <;> intro h <;> linarith

theorem lift_coe (a : Fin 16 → ℝ) (e : Fin 16) :
    Ideal.exp (((a e : ℝ) : EReal) - ((a (one a) : ℝ) : EReal)) = ((Real.exp (a e - a (one a)) : ℝ) : EReal) := by
  rw [← EReal.coe_sub]; rfl

theorem soft_coe (a : Fin 16 → ℝ) (e : Fin 16) :
    Ideal.div ((Real.exp (a e - a (one a)) : ℝ) : EReal) (∑ x, ((Real.exp (a x - a (one a)) : ℝ) : EReal)) = ((soft a e : ℝ) : EReal) := by
  rw [coe_sum]; exact coe_div _ _ (total_pos a).ne'

theorem greatest_coe (a : Fin 16 → ℝ) : Finset.fold max (⊥ : EReal) (fun x => ((a x : ℝ) : EReal)) Finset.univ = ((a (one a) : ℝ) : EReal) :=
  fold_greatest (fun x => ((a x : ℝ) : EReal)) (one a) fun b => EReal.coe_le_coe_iff.mpr ((pair a).top b)

/-- The first place of the greatest. -/
theorem first_place (a : Fin 16 → ℝ) [DecidablePred fun x : Fin 16 => ((a x : ℝ) : EReal) = ((a (one a) : ℝ) : EReal)] :
    Finset.fold IntOp.minsi (2147483647#32)
      (fun x : Fin 16 => if ((a x : ℝ) : EReal) = ((a (one a) : ℝ) : EReal) then BitVec.ofNat 32 x.val else 16#32) Finset.univ
      = BitVec.ofNat 32 (one a).val :=
  fold_least _ (one a) rfl fun b hb => not_lt.mp fun hlt => absurd (EReal.coe_eq_coe_iff.mp hb) (ne_of_lt ((pair a).topLow b hlt))

/-- The row with the first choice struck out. -/
def rest (a : Fin 16 → ℝ) (x : Fin 16) : EReal := if x = one a then ⊥ else ((a x : ℝ) : EReal)
theorem rest_two (a : Fin 16 → ℝ) : rest a (two a) = ((a (two a) : ℝ) : EReal) := if_neg (pair a).ne
theorem rest_greatest (a : Fin 16 → ℝ) : Finset.fold max (⊥ : EReal) (rest a) Finset.univ = rest a (two a) :=
  fold_greatest _ (two a) fun b => by
    rw [rest_two]
    unfold rest
    split
    · exact bot_le
    · next h => exact EReal.coe_le_coe_iff.mpr ((pair a).next b h)
theorem second_place (a : Fin 16 → ℝ) [DecidablePred fun x : Fin 16 => rest a x = rest a (two a)] :
    Finset.fold IntOp.minsi (2147483647#32)
      (fun x : Fin 16 => if rest a x = rest a (two a) then BitVec.ofNat 32 x.val else 16#32) Finset.univ
      = BitVec.ofNat 32 (two a).val := by
  refine fold_least _ (two a) rfl fun b hb => not_lt.mp fun hlt => ?_
  rw [rest_two] at hb
  unfold rest at hb
  split at hb
  · exact absurd hb.symm (EReal.coe_ne_bot _)
  · next h => exact absurd (EReal.coe_eq_coe_iff.mp hb) (ne_of_lt ((pair a).nextLow b h hlt))

/-- A choice between two values by whether two places agree. -/
theorem select_place {α : Type} (x y : Fin 16) (u v : α) :
    Scalar.select (IntOp.cmpi .eq (BitVec.ofNat 32 x.val) (BitVec.ofNat 32 y.val)) u v = if x = y then u else v := by
  rw [place_eq]
  by_cases h : x = y <;> simp [h, Scalar.select]

/-- A sum that keeps one place. -/
theorem sum_place (y : Fin 16) (f : Fin 16 → EReal) : (∑ x, if x = y then f x else 0) = f y := by
  rw [Finset.sum_ite_eq']; simp

/-- A widened comparison of two places. -/
theorem flag_place (x y : Fin 16) :
    FloatOps.uitofp (F := Ideal) .f32 (IntOp.cmpi .eq (BitVec.ofNat 32 x.val) (BitVec.ofNat 32 y.val)) = if y = x then ((1 : ℝ) : EReal) else ((0 : ℝ) : EReal) := by
  rw [place_eq]
  by_cases h : x = y
  · subst h; simp [FloatOps.uitofp]
  · simp [FloatOps.uitofp, h, Ne.symm h]

theorem lowest : Ideal.ofBits .f32 0xFF800000#32 = ⊥ := by simp [Ideal.ofBits, Ideal.ieee]

end Cert.Router

end
-- ==== Proof.V.Finite.lean ====
/- The precondition read at an element: every number of the arguments is a real one, and so every logit. -/
module

public import proofs.«01_k».proof.Pre_finite
public import Idealize.ShloMosaic.Lib.Pointwise
public import proofs.«01_k».proof.Proof.V.Row

@[expose] public section

set_option maxRecDepth 16384

noncomputable section

namespace Cert.Pre_finite.Hand

open Idealize.ShloMosaic Cert.Pre_finite

/-- The shape relations the precondition's operations take. -/
theorem facts : Cert.Pre_finite.Facts where
  bcast_S_S8192x4096 := by decide
  reducesTo_S8192x4096_S_d0_1 := by decide
  h_S_ := by decide
  bcast_S_S16x4096 := by decide
  reducesTo_S16x4096_S_d0_1 := by decide

theorem highest : Ideal.ofBits .f32 0x7F800000#32 = ⊤ := by simp [Ideal.ofBits, Ideal.ieee]

theorem andi_one : ∀ a b : BitVec 1, IntOp.andi a b = 1#1 → a = 1#1 ∧ b = 1#1 := by decide
/-- A conjunction over finitely many places holds at each. -/
theorem fold_andi {ι : Type} (s : Finset ι) (f : ι → BitVec 1) (h : Finset.fold IntOp.andi (1#1) f s = 1#1) : ∀ x ∈ s, f x = 1#1 := by
  classical
  induction s using Finset.induction_on with
  | empty => simp
  | insert y s hy ih =>
    rw [Finset.fold_insert hy] at h
    obtain ⟨h1, h2⟩ := andi_one _ _ h
    intro x hx
    rcases Finset.mem_insert.mp hx with rfl | hx
    · exact h1
    · exact ih h2 x hx

theorem each {ι : Type} [Fintype ι] (f : ι → BitVec 1) (h : Finset.fold IntOp.andi (1#1) f Finset.univ = 1#1) (x : ι) : f x = 1#1 :=
  fold_andi Finset.univ f h x (Finset.mem_univ x)

theorem real_of_bit (z : EReal) (h : BitVec.ofBool (decide (FloatOps.absf (F := Ideal) (φ := .f32) z < Ideal.ofBits .f32 0x7F800000#32)) = 1#1) :
    z = ((z.toReal : ℝ) : EReal) := by
  have hz : max z (-z) < ⊤ := by
    by_contra hn
    rw [highest, Ideal.absf_def, decide_eq_false hn] at h
    exact absurd h (by decide)
  obtain ⟨h1, h2⟩ := max_lt_iff.mp hz
  refine (EReal.coe_toReal h1.ne fun hb => ?_).symm
  rw [hb, EReal.neg_bot] at h2
  exact lt_irrefl _ h2

/-- Under the precondition every number of both arguments is real. -/
theorem real [Cert.Pre_finite.Facts] (X : FVec Ideal S8192x4096 .f32) (W : FVec Ideal S16x4096 .f32) (h : fn X W = fun _ => 1#1) :
    (∀ (t : Fin 8192) (k : Fin 4096), X (ix2 t k) = (((X (ix2 t k)).toReal : ℝ) : EReal)) ∧ ∀ (e : Fin 16) (k : Fin 4096), W (ix2 e k) = (((W (ix2 e k)).toReal : ℝ) : EReal) := by
  have h0 := congrFun h ix0
  pointwise [fn] at h0
  obtain ⟨h1, h2⟩ := andi_one _ _ h0
  refine ⟨fun t k => ?_, fun e k => ?_⟩
  · exact real_of_bit _ (each _ h1 (t, k))
  · exact real_of_bit _ (each _ h2 (e, k))

/-- The logit of a row and an expert, as a real number. -/
def dot (X : FVec Ideal S8192x4096 .f32) (W : FVec Ideal S16x4096 .f32) (t : Fin 8192) (e : Fin 16) : ℝ :=
  ∑ k : Fin 4096, (X (ix2 t k)).toReal * (W (ix2 e k)).toReal
theorem dot_coe [Cert.Pre_finite.Facts] (X : FVec Ideal S8192x4096 .f32) (W : FVec Ideal S16x4096 .f32) (h : fn X W = fun _ => 1#1)
    (t : Fin 8192) (e : Fin 16) : (∑ k : Fin 4096, X (ix2 t k) * W (ix2 e k)) = ((dot X W t e : ℝ) : EReal) := by
  obtain ⟨hX, hW⟩ := real X W h
  unfold dot
  rw [← Cert.Router.coe_sum]
  refine Finset.sum_congr rfl fun k _ => ?_
  rw [EReal.coe_mul, ← hX, ← hW]

end Cert.Pre_finite.Hand

end
-- ==== Proof.V.Inputs.lean ====
/- The blocks a grid point reads, at an index of the arguments: its thousand rows, and the experts with their axes
   exchanged. -/
module

public import proofs.«01_k».proof.Proof.KI.Body
public import Idealize.ShloMosaic.Lib.Pointwise
public import Idealize.ShloMosaic.Lib.Pipeline.ValueKit
public import Idealize.ShloMosaic.Lib.Claim

@[expose] public section

set_option maxRecDepth 16384

noncomputable section

namespace Cert.KernelIdeal.Hand

open Idealize.ShloMosaic Idealize.ShloMosaic.TcCoe Idealize.SL.Sem
open Cert.KernelIdeal Cert.KernelIdeal.Gen

variable (m : (ℓ : Loc nD τ sig) → Buf (Elt Ideal) ℓ) (c : Dev nD)

/-- Where a point's blocks lie. -/
theorem places : ∀ t : Fin cfg0.N, win0_0.index t = ![t.val, 0] ∧ win0_1.index t = ![0, 0] :=
  (by decide +kernel : ∀ t : Fin grid0.N, _)

theorem xAt_at (u : Fin 8) (r : Fin 1024) (k : Fin 4096) :
    xAt m c u (ix2 r k) = m ((c.tc : Thread nD τ).loc main_arg0) (ix2 (⟨1024 * u.val + r.val, by omega⟩ : Fin 8192) k) := by
  have hp : (pt u).val = u.val := rfl
  blk_ext [iblk, V, places (pt u), hp]

theorem wAt_at (u : Fin 8) (k : Fin 4096) (e : Fin 16) :
    wAt m c u (ix2 k e) = m ((c.tc : Thread nD τ).loc main_arg1) (ix2 e k) := by
  have hV : V m c main_v0 = (transpose S4096x16 [1, 0] (m ((c.tc : Thread nD τ).loc main_arg1)) transposes_S16x4096_S4096x16_1_0 : Vec Ideal S4096x16 .f32) := by
    unfold V V0 hostOps0
    simp only [List.flatten_cons, List.flatten_nil, List.append_nil]
    after_results
  blk_simp [iblk, places (pt u)]
  rw [hV]
  pointwise
  blk_ext [places (pt u)]

end Cert.KernelIdeal.Hand

end
-- ==== Proof.V.Block.lean ====
/- What one grid point computes from its rows, at an index, where every logit is a real number `a r e`. -/
module

public import proofs.«01_k».proof.Proof.KI.Family
public import proofs.«01_k».proof.Proof.V.Row
public import Idealize.ShloMosaic.Lib.Pointwise

@[expose] public section

set_option maxRecDepth 16384

noncomputable section

namespace Cert.KernelIdeal.Hand

open Idealize.ShloMosaic Idealize.ShloMosaic.TcCoe Idealize.SL.Sem
open Cert.KernelIdeal Cert.KernelIdeal.Gen Cert.Router

variable (x : Vec Ideal S1024x4096 .f32) (w : Vec Ideal S4096x16 .f32) (a : Fin 1024 → Fin 16 → ℝ)

/-- A logit of the block. -/
theorem logit_at (r : Fin 1024) (e : Fin 16) : k0_pay5 (F := Ideal) x w (ix2 r e) = ∑ k : Fin 4096, x (ix2 r k) * w (ix2 k e) := by
  pointwise [k0_pay5]

variable (ha : ∀ r e, k0_pay5 (F := Ideal) x w (ix2 r e) = ((a r e : ℝ) : EReal))
include ha

theorem peak_at (r : Fin 1024) : k0_pay6 (F := Ideal) x w (ix2 r 0) = ((a r (one (a r)) : ℝ) : EReal) := by
  pointwise [k0_pay6]
  simp only [ha, lowest]
  exact greatest_coe (a r)

theorem soft_at (r : Fin 1024) (e : Fin 16) : k0_pay7 (F := Ideal) x w (ix2 r e) = ((soft (a r) e : ℝ) : EReal) := by
  pointwise [k0_pay7]
  simp only [ha, peak_at x w a ha, lift_coe]
  exact soft_coe (a r) e

theorem first_at (r : Fin 1024) : k0_pay8 (F := Ideal) x w (ix2 r 0) = BitVec.ofNat 32 (one (a r)).val := by
  pointwise [k0_pay8]
  simp only [ha, peak_at x w a ha]
  exact first_place (a r)

theorem second_at (r : Fin 1024) : k0_pay9 (F := Ideal) x w (ix2 r 0) = BitVec.ofNat 32 (two (a r)).val := by
  pointwise [k0_pay9]
  simp only [ha, first_at x w a ha, lowest, select_place]
  change Finset.fold IntOp.minsi (2147483647#32) (fun y : Fin 16 => if rest (a r) y = Finset.fold max ⊥ (rest (a r)) Finset.univ then BitVec.ofNat 32 y.val else 16#32) Finset.univ = _
  simp only [rest_greatest]
  exact second_place (a r)

theorem kept_at (r : Fin 1024) (e : Fin 16) : k0_pay10 (F := Ideal) x w (ix2 r e) = if e = one (a r) then ((soft (a r) e : ℝ) : EReal) else 0 := by
  pointwise [k0_pay10]
  simp only [first_at x w a ha, soft_at x w a ha, select_place]

/-- The two weights of a row. -/
theorem outRw_at (r : Fin 1024) (k : Fin 2) : outRw (F := Ideal) x w (ix2 r k)
    = Ideal.div ((soft (a r) (if k.val < 1 then one (a r) else two (a r)) : ℝ) : EReal)
        (((soft (a r) (one (a r)) : ℝ) : EReal) + ((soft (a r) (two (a r)) : ℝ) : EReal)) := by
  pointwise [outRw, flat2, tileRw, k0_pay12, lanes]
  simp only [second_at x w a ha, soft_at x w a ha, kept_at x w a ha, select_place, sum_place]
  by_cases h : k.val < 1 <;> simp [h]

/-- The two experts of a row. -/
theorem outSel_at (r : Fin 1024) (k : Fin 2) : outSel (F := Ideal) x w (ix2 r k)
    = BitVec.ofNat 32 (if k.val < 1 then one (a r) else two (a r)).val := by
  have h0 : ∀ h : k.val < 1, (⟨k.val, h⟩ : Fin 1) = 0 := fun _ => Subsingleton.elim _ _
  have h1 : ∀ h : k.val - 1 < 1, (⟨k.val - 1, h⟩ : Fin 1) = 0 := fun _ => Subsingleton.elim _ _
  pointwise [outSel, flat2, tileSel, k0_pay13]
  simp only [h0, h1, first_at x w a ha, second_at x w a ha]
  by_cases h : k.val < 1 <;> simp [h]

/-- The logits written are the logits. -/
theorem outLog_at (r : Fin 1024) (e : Fin 16) : outLog (F := Ideal) x w (ix2 r e) = ((a r e : ℝ) : EReal) := by
  pointwise [outLog, flat16, tileLog, k0_pay11]
  exact ha r e

/-- The counts after a point. -/
theorem count_at (v : Vec Ideal S1x16 .f32) (e : Fin 16) : k0_pay2 (F := Ideal) lanes (k0_pay8 x w) v (ix2 0 e)
    = v (ix2 0 e) + ∑ r : Fin 1024, if e = one (a r) then ((1 : ℝ) : EReal) else ((0 : ℝ) : EReal) := by
  pointwise [k0_pay2, lanes]
  simp only [first_at x w a ha, select_place]
  simp

/-- The sums of the softmax after a point. -/
theorem mass_at (v : Vec Ideal S1x16 .f32) (e : Fin 16) : k0_pay3 (F := Ideal) (k0_pay7 x w) v (ix2 0 e)
    = v (ix2 0 e) + ∑ r : Fin 1024, ((soft (a r) e : ℝ) : EReal) := by
  pointwise [k0_pay3]
  simp only [soft_at x w a ha]

end Cert.KernelIdeal.Hand

end
-- ==== Proof.V.Sums.lean ====
/- The accumulator after the last point, and the auxiliary loss read off it: the eight blocks' sums are the sums over all
   rows. -/
module

public import proofs.«01_k».proof.Proof.KI.Body
public import proofs.«01_k».proof.Proof.V.Block

@[expose] public section

set_option maxRecDepth 16384

noncomputable section

namespace Cert.KernelIdeal.Hand

open Idealize.ShloMosaic Idealize.ShloMosaic.TcCoe Idealize.SL.Sem
open Cert.KernelIdeal Cert.KernelIdeal.Gen Cert.Router

/-- The row of the array that a block's row is. -/
def at8 (u : Fin 8) (r : Fin 1024) : Fin 8192 := ⟨1024 * u.val + r.val, by omega⟩

/-- A sum over the rows, block by block. -/
theorem sum_blocks (f : Fin 8192 → EReal) : (∑ u : Fin 8, ∑ r : Fin 1024, f (at8 u r)) = ∑ t : Fin 8192, f t := by
  rw [← Fintype.sum_prod_type' (fun u r => f (at8 u r))]
  refine Fintype.sum_equiv (finProdFinEquiv (m := 8) (n := 1024)) _ _ fun x => congrArg f (Fin.ext ?_)
  show 1024 * x.1.val + x.2.val = x.2.val + 1024 * x.1.val
  omega

/-- A sum carried over the eight points. -/
theorem carried (f : ℕ → EReal) (g : Fin 8 → EReal) (h0 : f 0 = 0 + g (blk 0)) (hs : ∀ n, f (n + 1) = f n + g (blk (n + 1))) :
    f 7 = ∑ u : Fin 8, g u := by
  have hb : blk 0 = 0 ∧ blk 1 = 1 ∧ blk 2 = 2 ∧ blk 3 = 3 ∧ blk 4 = 4 ∧ blk 5 = 5 ∧ blk 6 = 6 ∧ blk 7 = 7 := by decide
  obtain ⟨b0, b1, b2, b3, b4, b5, b6, b7⟩ := hb
  rw [hs 6, hs 5, hs 4, hs 3, hs 2, hs 1, hs 0, h0, Fin.sum_univ_eight]
  simp only [zero_add, b0, b1, b2, b3, b4, b5, b6, b7, Nat.reduceAdd]

theorem zero_acc : k0_pay1 (F := Ideal) = fun _ => (0 : EReal) := by
  funext j
  pointwise [k0_pay1]
theorem zero_row0 (e : Fin 16) : row0 (F := Ideal) (k0_pay1 (F := Ideal)) (ix2 0 e) = 0 := by
  rw [zero_acc]; rfl
theorem zero_row1 (e : Fin 16) : row1 (F := Ideal) (k0_pay1 (F := Ideal)) (ix2 0 e) = 0 := by
  rw [zero_acc]; rfl

variable (m : (ℓ : Loc nD τ sig) → Buf (Elt Ideal) ℓ) (c : Dev nD) (a : Fin 8192 → Fin 16 → ℝ)
variable (ha : ∀ u r e, k0_pay5 (F := Ideal) (xAt m c u) (wAt m c u) (ix2 r e) = ((a (at8 u r) e : ℝ) : EReal))
include ha

/-- How many rows choose an expert first. -/
theorem counts (e : Fin 16) : row0 (accAt m c 7) (ix2 0 e) = ∑ t : Fin 8192, if e = one (a t) then ((1 : ℝ) : EReal) else ((0 : ℝ) : EReal) := by
  rw [← sum_blocks]
  refine carried (fun n => row0 (accAt m c n) (ix2 0 e)) _ ?_ fun n => ?_
  · exact ((congrFun (row0_accStep _ _ _) _).trans (count_at _ _ (fun r => a (at8 (blk 0) r)) (ha (blk 0)) _ e)).trans (congrArg (· + _) (zero_row0 e))
  · exact (congrFun (row0_accStep _ _ _) _).trans (count_at _ _ (fun r => a (at8 (blk (n + 1)) r)) (ha (blk (n + 1))) _ e)

/-- The sum of an expert's softmax. -/
theorem masses (e : Fin 16) : row1 (accAt m c 7) (ix2 0 e) = ∑ t : Fin 8192, ((soft (a t) e : ℝ) : EReal) := by
  rw [← sum_blocks]
  refine carried (fun n => row1 (accAt m c n) (ix2 0 e)) _ ?_ fun n => ?_
  · exact ((congrFun (row1_accStep _ _ _) _).trans (mass_at _ _ (fun r => a (at8 (blk 0) r)) (ha (blk 0)) _ e)).trans (congrArg (· + _) (zero_row1 e))
  · exact (congrFun (row1_accStep _ _ _) _).trans (mass_at _ _ (fun r => a (at8 (blk (n + 1)) r)) (ha (blk (n + 1))) _ e)

/-- The auxiliary loss. -/
theorem aux_at (j : S_.Idx) : shapeCast S_ (auxOf (accAt m c 7)) shapeCasts_S1x1_S_ j
    = Ideal.ofBits .f32 0x3123D70A#32 * ∑ e : Fin 16,
        (∑ t : Fin 8192, if e = one (a t) then ((1 : ℝ) : EReal) else ((0 : ℝ) : EReal)) * ∑ t : Fin 8192, ((soft (a t) e : ℝ) : EReal) := by
  simp only [← counts m c a ha, ← masses m c a ha]
  generalize accAt m c 7 = A
  unfold auxOf
  generalize row0 A = v0
  generalize row1 A = v1
  pointwise [k0_pay4]
  simp

end Cert.KernelIdeal.Hand

end
-- ==== Proof.V.RefAt.lean ====
/- What the reference computes, at an index, where every logit is a real number `a t e`. -/
module

public import proofs.«01_k».proof.Proof.V.Ref
public import proofs.«01_k».proof.Proof.V.Row
public import Idealize.ShloMosaic.Lib.Pointwise

@[expose] public section

set_option maxRecDepth 16384

noncomputable section

namespace Cert.ReferenceIdeal.Hand

open Idealize.ShloMosaic Idealize.ShloMosaic.TcCoe Idealize.SL.Sem
open Cert.ReferenceIdeal Cert.ReferenceIdeal.Gen Cert.Router

/-- A logit. -/
theorem logit_at (X : FVec Ideal S8192x4096 .f32) (W : FVec Ideal S16x4096 .f32) (t : Fin 8192) (e : Fin 16) :
    logits X W (ix2 t e) = ∑ k : Fin 4096, X (ix2 t k) * W (ix2 e k) := by
  pointwise [logits]

theorem along_row (t : Fin 8192) (k : Fin 16) (q : Fin 16) : (ix2 t k : S8192x16.Idx).along 1 q = ix2 t q := by
  funext b
  match b with
  | 0 => rfl
  | 1 => rfl

variable (L : FVec Ideal S8192x16 .f32) (a : Fin 8192 → Fin 16 → ℝ)
variable (ha : ∀ t e, L (ix2 t e) = ((a t e : ℝ) : EReal))
include ha

theorem peak_at (t : Fin 8192) : peak L (ix1 t) = ((a t (one (a t)) : ℝ) : EReal) := by
  pointwise [peak]
  simp only [ha, lowest]
  rw [greatest_coe (a t)]
  exact max_eq_right bot_le

theorem lifted_at (t : Fin 8192) (e : Fin 16) : lifted L (ix2 t e) = ((Real.exp (a t e - a t (one (a t))) : ℝ) : EReal) := by
  pointwise [lifted, spread]
  rw [ha, peak_at L a ha, lift_coe]

theorem soft_at (t : Fin 8192) (e : Fin 16) : prob L (ix2 t e) = ((soft (a t) e : ℝ) : EReal) := by
  pointwise [prob, spread]
  simp only [lifted_at L a ha]
  exact soft_coe (a t) e

/-- The place in the row that a choice comes from. -/
theorem source_at (t : Fin 8192) (k : Fin 2) (h : k.val < 16) :
    sortedFrom (fun x y : Fin 16 => FloatOps.cmpfTotal (F := Ideal) (φ := .f32) CmpDirection.gt (prob L ((ix2 t ⟨k.val, h⟩ : S8192x16.Idx).along 1 x))
        (prob L ((ix2 t ⟨k.val, h⟩ : S8192x16.Idx).along 1 y)) == 1#1) ⟨k.val, h⟩
      = if k.val < 1 then one (a t) else two (a t) := by
  have hx : ∀ q : Fin 16, prob L ((ix2 t ⟨k.val, h⟩ : S8192x16.Idx).along 1 q) = ((soft (a t) q : ℝ) : EReal) :=
    fun q => (congrArg (prob L) (along_row t _ q)).trans (soft_at L a ha t q)
  refine Eq.trans (congrArg (fun B : Fin 16 → Fin 16 → Bool => sortedFrom B ⟨k.val, h⟩) (funext fun x => funext fun y => ?_))
    (sorted_two (a t) (fun e => ((soft (a t) e : ℝ) : EReal)) (soft_lt (a t)) k h)
  exact congrArg₂ (fun u v : EReal => FloatOps.cmpfTotal (F := Ideal) (φ := .f32) CmpDirection.gt u v == 1#1) (hx x) (hx y)

theorem value_at (t : Fin 8192) (k : Fin 2) : (ranked (prob L)).1 (ix2 t k)
    = ((soft (a t) (if k.val < 1 then one (a t) else two (a t)) : ℝ) : EReal) := by
  have h : k.val < 16 := by omega
  have hs := source_at L a ha t k h
  pointwise [ranked, Host.topK, Host.sort2]
  rw [← soft_at L a ha t]
  refine congrArg (prob L) ?_
  refine (congrArg ((ix2 t ⟨k.val, h⟩ : S8192x16.Idx).along 1) hs).trans ?_
  exact along_row t _ _

theorem place_at (t : Fin 8192) (k : Fin 2) : (ranked (prob L)).2 (ix2 t k)
    = BitVec.ofNat 32 (if k.val < 1 then one (a t) else two (a t)).val := by
  have h : k.val < 16 := by omega
  have hs := source_at L a ha t k h
  pointwise [ranked, Host.topK, Host.sort2]
  refine congrArg (fun q : Fin 16 => BitVec.ofNat 32 q.val) ?_
  have h2 := congrArg (fun q => (ix2 t ⟨k.val, h⟩ : S8192x16.Idx).along 1 q 1) hs
  exact h2.trans (congrFun (along_row t _ _) 1)

theorem weight_at (t : Fin 8192) (k : Fin 2) : normal (ranked (prob L)).1 (ix2 t k)
    = Ideal.div ((soft (a t) (if k.val < 1 then one (a t) else two (a t)) : ℝ) : EReal)
        (((soft (a t) (one (a t)) : ℝ) : EReal) + ((soft (a t) (two (a t)) : ℝ) : EReal)) := by
  pointwise [normal]
  simp only [value_at L a ha, Fin.sum_univ_two]
  simp

/-- The loss, over the counts and the sums of the softmax. -/
theorem loss_at : loss (ranked (prob L)).2 (prob L) ix0
    = Ideal.ofBits .f32 0x3E23D70A#32 * ∑ e : Fin 16,
        Ideal.div (∑ t : Fin 8192, if e = one (a t) then ((1 : ℝ) : EReal) else ((0 : ℝ) : EReal)) (Ideal.ofBits .f32 0x46000000#32)
          * Ideal.div (∑ t : Fin 8192, ((soft (a t) e : ℝ) : EReal)) (Ideal.ofBits .f32 0x46000000#32) := by
  pointwise [loss, mean, mask]
  have h0 : ∀ t, (ranked (prob L)).2 (ix2 t 0) = BitVec.ofNat 32 (one (a t)).val := fun t => place_at L a ha t 0
  simp only [h0, flag_place, soft_at L a ha]

end Cert.ReferenceIdeal.Hand

end
-- ==== Proof.V.Equation.lean ====
/- The kernel's four results are the reference's, where the arguments are finite. -/
module

public import proofs.«01_k».proof.Proof.KI.Ring
public import proofs.«01_k».proof.Proof.V.Inputs
public import proofs.«01_k».proof.Proof.V.Sums
public import proofs.«01_k».proof.Proof.V.RefAt
public import proofs.«01_k».proof.Proof.V.Finite

@[expose] public section

set_option maxRecDepth 16384

noncomputable section

namespace Cert.KernelIdeal.Hand

open Idealize.ShloMosaic Idealize.ShloMosaic.TcCoe Idealize.SL.Sem
open Cert.KernelIdeal Cert.KernelIdeal.Gen Cert.Router

/-! ## The two programs' constants -/

theorem scale_kernel : Ideal.ofBits .f32 0x3123D70A#32 = ((10737418 / 2 ^ 52 : ℝ) : EReal) := by
  simp [Ideal.ofBits, Ideal.ieee, -EReal.coe_mul]; norm_num
theorem scale_reference : Ideal.ofBits .f32 0x3E23D70A#32 = ((10737418 / 2 ^ 26 : ℝ) : EReal) := by
  simp [Ideal.ofBits, Ideal.ieee, -EReal.coe_mul]; norm_num
theorem row_count : Ideal.ofBits .f32 0x46000000#32 = ((8192 : ℝ) : EReal) := by
  simp [Ideal.ofBits, Ideal.ieee, -EReal.coe_mul]; norm_num

/-- Dividing both means by the number of rows is scaling the sum of products once. -/
theorem scaled (p q : Fin 16 → ℝ) :
    Ideal.ofBits .f32 0x3123D70A#32 * (∑ e, ((p e : ℝ) : EReal) * ((q e : ℝ) : EReal))
      = Ideal.ofBits .f32 0x3E23D70A#32 * ∑ e, Ideal.div ((p e : ℝ) : EReal) (Ideal.ofBits .f32 0x46000000#32)
          * Ideal.div ((q e : ℝ) : EReal) (Ideal.ofBits .f32 0x46000000#32) := by
  rw [scale_kernel, scale_reference, row_count]
  simp only [coe_div _ _ (by norm_num : (8192 : ℝ) ≠ 0), ← EReal.coe_mul, coe_sum]
  refine congrArg _ ?_
  rw [Finset.mul_sum, Finset.mul_sum]
  refine Finset.sum_congr rfl fun e _ => ?_
  ring

/-! ## The results -/

theorem row_split (t : Fin 8192) (h : t.val / 1024 < 8) (h' : t.val % 1024 < 1024) : at8 ⟨t.val / 1024, h⟩ ⟨t.val % 1024, h'⟩ = t :=
  Fin.ext (by show 1024 * (t.val / 1024) + t.val % 1024 = t.val; omega)

variable (m : (ℓ : Loc nD τ sig) → Buf (Elt Ideal) ℓ) (c : Dev nD) [Cert.Pre_finite.Facts]
variable (X : FVec Ideal Cert.ReferenceIdeal.S8192x4096 .f32) (W : FVec Ideal Cert.ReferenceIdeal.S16x4096 .f32)
variable (hX : m ((c.tc : Thread nD τ).loc main_arg0) = X) (hW : m ((c.tc : Thread nD τ).loc main_arg1) = W)
variable (hf : Cert.Pre_finite.fn X W = fun _ => 1#1)
include hX hW hf

/-- A block's logits are the array's. -/
theorem block_logit (u : Fin 8) (r : Fin 1024) (e : Fin 16) :
    k0_pay5 (F := Ideal) (xAt m c u) (wAt m c u) (ix2 r e) = ((Cert.Pre_finite.Hand.dot X W (at8 u r) e : ℝ) : EReal) := by
  rw [logit_at, ← Cert.Pre_finite.Hand.dot_coe X W hf]
  refine Finset.sum_congr rfl fun k _ => ?_
  rw [xAt_at, wAt_at, hX, hW]
  rfl

omit hX hW in
theorem array_logit (t : Fin 8192) (e : Fin 16) :
    Cert.ReferenceIdeal.Hand.logits X W (ix2 t e) = ((Cert.Pre_finite.Hand.dot X W t e : ℝ) : EReal) := by
  rw [Cert.ReferenceIdeal.Hand.logit_at, ← Cert.Pre_finite.Hand.dot_coe X W hf]

/-- The logits. -/
theorem result_logits : gather16 (valLog m c) = Cert.ReferenceIdeal.Hand.logits X W := by
  funext i
  obtain ⟨t, e, rfl⟩ : ∃ (t : Fin 8192) (e : Fin 16), i = ix2 t e := ⟨i 0, i 1, eq_ix2 i⟩
  refine Eq.trans ?_ (array_logit X W hf t e).symm
  refine (outLog_at _ _ (fun r => Cert.Pre_finite.Hand.dot X W (at8 _ r)) (block_logit m c X W hX hW hf _) _ _).trans ?_
  exact congrArg (fun s : Fin 8192 => ((Cert.Pre_finite.Hand.dot X W s e : ℝ) : EReal)) (row_split t _ _)

/-- The experts. -/
theorem result_experts : gather2 (valSel m c)
    = (Cert.ReferenceIdeal.Hand.ranked (Cert.ReferenceIdeal.Hand.prob (Cert.ReferenceIdeal.Hand.logits X W))).2 := by
  funext i
  obtain ⟨t, k, rfl⟩ : ∃ (t : Fin 8192) (k : Fin 2), i = ix2 t k := ⟨i 0, i 1, eq_ix2 i⟩
  refine Eq.trans ?_ (Cert.ReferenceIdeal.Hand.place_at _ _ (array_logit X W hf) t k).symm
  refine (outSel_at _ _ (fun r => Cert.Pre_finite.Hand.dot X W (at8 _ r)) (block_logit m c X W hX hW hf _) _ _).trans ?_
  exact congrArg (fun s : Fin 8192 => BitVec.ofNat 32 (if k.val < 1 then one (Cert.Pre_finite.Hand.dot X W s) else two (Cert.Pre_finite.Hand.dot X W s)).val) (row_split t _ _)

/-- The weights. -/
theorem result_weights : gather2 (valRw m c)
    = Cert.ReferenceIdeal.Hand.normal (Cert.ReferenceIdeal.Hand.ranked (Cert.ReferenceIdeal.Hand.prob (Cert.ReferenceIdeal.Hand.logits X W))).1 := by
  funext i
  obtain ⟨t, k, rfl⟩ : ∃ (t : Fin 8192) (k : Fin 2), i = ix2 t k := ⟨i 0, i 1, eq_ix2 i⟩
  refine Eq.trans ?_ (Cert.ReferenceIdeal.Hand.weight_at _ _ (array_logit X W hf) t k).symm
  refine (outRw_at _ _ (fun r => Cert.Pre_finite.Hand.dot X W (at8 _ r)) (block_logit m c X W hX hW hf _) _ _).trans ?_
  exact congrArg (fun s : Fin 8192 => Ideal.div ((soft (Cert.Pre_finite.Hand.dot X W s) (if k.val < 1 then one (Cert.Pre_finite.Hand.dot X W s) else two (Cert.Pre_finite.Hand.dot X W s)) : ℝ) : EReal)
      (((soft (Cert.Pre_finite.Hand.dot X W s) (one (Cert.Pre_finite.Hand.dot X W s)) : ℝ) : EReal) + ((soft (Cert.Pre_finite.Hand.dot X W s) (two (Cert.Pre_finite.Hand.dot X W s)) : ℝ) : EReal))) (row_split t _ _)

/-- The auxiliary loss. -/
theorem result_loss : shapeCast S_ (auxOf (accAt m c 7)) shapeCasts_S1x1_S_
    = Cert.ReferenceIdeal.Hand.loss (Cert.ReferenceIdeal.Hand.ranked (Cert.ReferenceIdeal.Hand.prob (Cert.ReferenceIdeal.Hand.logits X W))).2
        (Cert.ReferenceIdeal.Hand.prob (Cert.ReferenceIdeal.Hand.logits X W)) := by
  funext j
  have hj : j = ix0 := Subsingleton.elim _ _
  rw [hj]
  refine Eq.trans ?_ (Cert.ReferenceIdeal.Hand.loss_at _ _ (array_logit X W hf)).symm
  refine (aux_at m c (Cert.Pre_finite.Hand.dot X W) (block_logit m c X W hX hW hf) ix0).trans ?_
  have hc : ∀ e : Fin 16, (∑ t : Fin 8192, if e = one (Cert.Pre_finite.Hand.dot X W t) then ((1 : ℝ) : EReal) else ((0 : ℝ) : EReal))
      = ((∑ t : Fin 8192, if e = one (Cert.Pre_finite.Hand.dot X W t) then (1 : ℝ) else 0 : ℝ) : EReal) := fun e => by
    rw [← coe_sum]
    exact Finset.sum_congr rfl fun t _ => by split <;> rfl
  simp only [hc, coe_sum]
  exact scaled _ _

end Cert.KernelIdeal.Hand

end
-- ==== Proof.lean ====
/- The claims of the statement, assembled: each program's run gives its frame, and the two ideal runs end
   with equal results where the arguments are finite. -/
module

public import proofs.«01_k».proof.Proof.K.Run
public import proofs.«01_k».proof.Proof.KI.Run
public import proofs.«01_k».proof.Proof.Gen.ReferenceIdeal.Run
public import proofs.«01_k».proof.Proof.V.Ref
public import proofs.«01_k».proof.Proof.V.Finite
public import proofs.«01_k».proof.Proof.V.Equation
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The kernel as printed: it terminates, leaves its arguments, and ends with its counters at zero. -/
theorem frame_p : Cert.quiescent_Kernel := fun m ρ _ =>
  (θ_run _ _ _).mono (fun _ h => ⟨fun c => ⟨(h.1 c).2.2.2.2.1, (h.1 c).2.2.2.2.2⟩, h.2⟩) (Cert.Kernel.Hand.run m ρ)
/-- The same of its ideal reading. -/
theorem frame_pi : Cert.quiescent_KernelIdeal := fun m ρ _ =>
  (θ_run _ _ _).mono (fun _ h => ⟨fun c => ⟨(h.1 c).2.2.2.2.1, (h.1 c).2.2.2.2.2⟩, h.2⟩) (Cert.KernelIdeal.Hand.run m ρ)
/-- The same of the reference, which has no counters. -/
theorem frame_ri : Cert.quiescent_ReferenceIdeal := fun m ρ _ =>
  (θ_run _ _ _).mono (fun _ h => ⟨fun c => ⟨(h c).2.2.2.2.1, (h c).2.2.2.2.2⟩, sem_eq_zero_of_no_sems (by decide) _⟩) (Cert.ReferenceIdeal.Value.run m ρ)

open Cert.KernelIdeal.Hand in
/-- Read as extended reals, the kernel and the reference end with equal results on finite arguments. -/
theorem equal_results : Cert.algebraic_KernelIdeal_ReferenceIdeal_pre_finite (hPre_finite := Cert.Pre_finite.Hand.facts) := by
  haveI := Cert.Pre_finite.Hand.facts
  intro m g m' g' hpre hag
  refine ⟨fun c => gather2 (valRw m c), fun c => gather2 (valSel m c), fun c => gather16 (valLog m c),
    fun c => shapeCast Cert.KernelIdeal.S_ (auxOf (accAt m c 7)) Cert.KernelIdeal.Gen.shapeCasts_S1x1_S_, ?_, ?_⟩
  · exact (θ_run _ _ _).mono (fun _ h => h.1) (Cert.KernelIdeal.Hand.run m g)
  · refine (θ_run _ _ _).mono (fun _ h c => ?_) (Cert.ReferenceIdeal.Hand.run m' g')
    have hr := h c
    have h0 := (hag c).1.symm
    have h1 := (hag c).2.symm
    have hf : Cert.Pre_finite.fn (F := Ideal) (m' (c.tc.loc Cert.ReferenceIdeal.main_arg0)) (m' (c.tc.loc Cert.ReferenceIdeal.main_arg1)) = fun _ => 1#1 := by
      rw [(hag c).1, (hag c).2]; exact hpre c
    exact ⟨hr.1.trans (result_weights m c _ _ h0 h1 hf).symm,
      hr.2.1.trans (result_experts m c _ _ h0 h1 hf).symm,
      hr.2.2.1.trans (result_logits m c _ _ h0 h1 hf).symm,
      hr.2.2.2.1.trans (result_loss m c _ _ h0 h1 hf).symm,
      hr.2.2.2.2.1, hr.2.2.2.2.2⟩

/-- Every claim. -/
theorem claim : Cert.Claim := ⟨Cert.Kernel.Gen.facts, Cert.KernelIdeal.Gen.facts, Cert.ReferenceIdeal.Gen.facts, Cert.Pre_finite.Hand.facts,
  frame_p, frame_pi, fun m g _ => frame_pi m g trivial, frame_ri, fun m g _ => frame_ri m g trivial, trivial, equal_results⟩

end Cert.Proof

end
